-- ==== Defs.lean ====
def Pre_Kernel [hPre_in_bins : Cert.Pre_in_bins.Facts] (m : (ℓ : Loc Cert.Kernel.nD Cert.Kernel.τ Cert.Kernel.sig) → Buf (Elt Bits) ℓ) : Prop :=
  ∀ c : Dev Cert.Kernel.nD,
    (Cert.Pre_in_bins.fn (F := Bits) (m ((c.tc : Thread Cert.Kernel.nD Cert.Kernel.τ).loc Cert.Kernel.main_arg0))) = (fun _ => 1#1)

def Pre_KernelIdeal [hPre_in_bins : Cert.Pre_in_bins.Facts] (m : (ℓ : Loc Cert.KernelIdeal.nD Cert.KernelIdeal.τ Cert.KernelIdeal.sig) → Buf (Elt Ideal) ℓ) : Prop :=
  ∀ c : Dev Cert.KernelIdeal.nD,
    (Cert.Pre_in_bins.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_bins [hPre_in_bins : Cert.Pre_in_bins.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_bins.fn (F := Ideal) (m ((c.tc : Thread Cert.ReferenceIdeal.nD Cert.ReferenceIdeal.τ).loc Cert.ReferenceIdeal.main_arg0))) = (fun _ => 1#1)

def Pre_Reference [hPre_in_bins : Cert.Pre_in_bins.Facts] (m : (ℓ : Loc Cert.Reference.nD Cert.Reference.τ Cert.Reference.sig) → Buf (Elt Bits) ℓ) : Prop :=
  ∀ c : Dev Cert.Reference.nD,
    (Cert.Pre_in_bins.fn (F := Bits) (m ((c.tc : Thread Cert.Reference.nD Cert.Reference.τ).loc Cert.Reference.main_arg0))) = (fun _ => 1#1)

def Pre_LossIdeal [hPre_finite : Cert.Pre_finite.Facts] (m : (ℓ : Loc Cert.LossIdeal.nD Cert.LossIdeal.τ Cert.LossIdeal.sig) → Buf (Elt Ideal) ℓ) : Prop :=
  ∀ c : Dev Cert.LossIdeal.nD,
    (Cert.Pre_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite [hPre_finite : Cert.Pre_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1))) = (fun _ => 1#1)

def quiescent_Kernel [hKernel : Cert.Kernel.Facts] [hPre_in_bins : Cert.Pre_in_bins.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_in_bins : Cert.Pre_in_bins.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_in_bins [hReferenceIdeal : Cert.ReferenceIdeal.Facts] [hPre_in_bins : Cert.Pre_in_bins.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_bins m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] [hPre_in_bins : Cert.Pre_in_bins.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_LossIdeal [hLossIdeal : Cert.LossIdeal.Facts] [hPre_finite : Cert.Pre_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (Cert.LossIdeal.threads (F := Ideal)) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_LossReferenceIdeal_pre_finite [hLossReferenceIdeal : Cert.LossReferenceIdeal.Facts] [hPre_finite : Cert.Pre_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_bins : Cert.Pre_in_bins.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] [hPre_in_bins : Cert.Pre_in_bins.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v17) = v0 c
          ∧ r.2.mem ((c.tc : Thread Cert.Reference.nD Cert.Reference.τ).loc Cert.Reference.main_arg0) = m' ((c.tc : Thread Cert.Reference.nD Cert.Reference.τ).loc Cert.Reference.main_arg0))

def algebraic_LossIdeal_LossReferenceIdeal [hLossIdeal : Cert.LossIdeal.Facts] [hLossReferenceIdeal : Cert.LossReferenceIdeal.Facts] [hPre_finite : Cert.Pre_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v7)),
      θ_run (Cert.LossIdeal.defs (F := Ideal)) (Cert.LossIdeal.threads (F := Ideal)) ⟨m, fun _ => 0, g⟩ (fun r => ∀ c : Dev Cert.LossIdeal.nD,
          r.2.mem ((c.tc : Thread Cert.LossIdeal.nD Cert.LossIdeal.τ).loc Cert.LossIdeal.main_v7) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v48) = v0 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hLossIdeal : Cert.LossIdeal.Facts) (hLossReferenceIdeal : Cert.LossReferenceIdeal.Facts) (hPre_in_bins : Cert.Pre_in_bins.Facts) (hPre_finite : Cert.Pre_finite.Facts),
    quiescent_Kernel (hKernel := hKernel) (hPre_in_bins := hPre_in_bins)
    ∧ quiescent_KernelIdeal (hKernelIdeal := hKernelIdeal) (hPre_in_bins := hPre_in_bins)
    ∧ quiescent_ReferenceIdeal (hReferenceIdeal := hReferenceIdeal)
    ∧ quiescent_ReferenceIdeal_pre_in_bins (hReferenceIdeal := hReferenceIdeal) (hPre_in_bins := hPre_in_bins)
    ∧ quiescent_Reference (hReference := hReference) (hPre_in_bins := hPre_in_bins)
    ∧ quiescent_LossIdeal (hLossIdeal := hLossIdeal) (hPre_finite := hPre_finite)
    ∧ quiescent_LossReferenceIdeal (hLossReferenceIdeal := hLossReferenceIdeal)
    ∧ quiescent_LossReferenceIdeal_pre_finite (hLossReferenceIdeal := hLossReferenceIdeal) (hPre_finite := hPre_finite)
    ∧ preserves_Kernel_KernelIdeal
    ∧ algebraic_KernelIdeal_ReferenceIdeal (hKernelIdeal := hKernelIdeal) (hReferenceIdeal := hReferenceIdeal) (hPre_in_bins := hPre_in_bins)
    ∧ bitexact_Kernel_Reference (hKernel := hKernel) (hReference := hReference) (hPre_in_bins := hPre_in_bins)
    ∧ algebraic_LossIdeal_LossReferenceIdeal (hLossIdeal := hLossIdeal) (hLossReferenceIdeal := hLossReferenceIdeal) (hPre_finite := hPre_finite)
-- ==== Pre_finite.lean ====
abbrev S4x21x384x384 : Shape := ⟨4, ![4, 21, 384, 384]⟩
abbrev S4x384x384 : Shape := ⟨3, ![4, 384, 384]⟩
abbrev S_ : Shape := ⟨0, ![]⟩

class Facts : Prop where
  bcast_S_S4x21x384x384 : S_.BroadcastsInDim S4x21x384x384 (![] : Fin 0 → Fin S4x21x384x384.rank)

variable [Facts]

def fn {F : FTy → Type} [FloatOps F] (main_arg0 : FVec F S4x21x384x384 .f32) (main_arg1 : IVec S4x384x384 32) : IVec S4x21x384x384 1 :=
  let main_v0 : FVec F S4x21x384x384 .f32 := Host.absf main_arg0
  let main_cst : FVec F S_ .f32 := constant S_ .f32 0x7F800000#32
  let main_v1 : FVec F S4x21x384x384 .f32 := broadcastInDim S4x21x384x384 ![] bcast_S_S4x21x384x384 main_cst
  let main_v2 : IVec S4x21x384x384 1 := cmpf .olt main_v0 main_v1
  main_v2
-- ==== Pre_in_bins.lean ====
abbrev S12386304 : Shape := ⟨1, ![12386304]⟩
abbrev S_ : Shape := ⟨0, ![]⟩

class Facts : Prop where
  bcast_S_S12386304 : S_.BroadcastsInDim S12386304 (![] : Fin 0 → Fin S12386304.rank)

variable [Facts]

def fn {F : FTy → Type} [FloatOps F] (main_arg0 : IVec S12386304 32) : IVec S12386304 1 :=
  let main_c : IVec S_ 32 := constantI S_ 32 0#32
  let main_v0 : IVec S12386304 32 := broadcastInDim S12386304 ![] bcast_S_S12386304 main_c
  let main_v1 : IVec S12386304 1 := cmpi .sge main_arg0 main_v0
  let main_c_0 : IVec S_ 32 := constantI S_ 32 43008#32
  let main_v2 : IVec S12386304 32 := broadcastInDim S12386304 ![] bcast_S_S12386304 main_c_0
  let main_v3 : IVec S12386304 1 := cmpi .slt main_arg0 main_v2
  let main_v4 : IVec S12386304 1 := andi main_v1 main_v3
  main_v4
-- ==== Kernel.lean ====
abbrev S12386304 : Shape := ⟨1, ![12386304]⟩
abbrev S32x43008 : Shape := ⟨2, ![32, 43008]⟩
abbrev S4608 : Shape := ⟨1, ![4608]⟩
abbrev S43008 : Shape := ⟨1, ![43008]⟩
abbrev S_ : Shape := ⟨0, ![]⟩
abbrev S16 : Shape := ⟨1, ![16]⟩
abbrev S1x43008 : Shape := ⟨2, ![1, 43008]⟩

abbrev nBuf : Table → Nat
  | .hbm => 2
  | .local .scVector .vmem => 3
  | _ => 0

abbrev bufTy : (tb : Table) → Fin (nBuf tb) → BufTy
  | .hbm, ⟨0, _⟩ => ⟨S12386304, .i32⟩
  | .hbm, ⟨1, _⟩ => ⟨S32x43008, .i32⟩
  | .local .scVector .vmem, ⟨0, _⟩ => ⟨S4608, .i32⟩
  | .local .scVector .vmem, ⟨1, _⟩ => ⟨S4608, .i32⟩
  | .local .scVector .vmem, ⟨2, _⟩ => ⟨S43008, .i32⟩
  | _, _ => ⟨S12386304, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c2688_i32 : BitVec 32 := 2688#32
  let v3 : BitVec 32 := Scalar.addi c0_i32 c2688_i32
  let c1_i32 : BitVec 32 := 1#32
  ⟨c0_i32, v3, c1_i32⟩
def k0_off1 (k0_t1 : Fin k0_t1_loop.trips) : Fin 1 → Nat :=
  let c0_i32_5 : BitVec 32 := 0#32
  let c0_i32 : BitVec 32 := 0#32
  let c1_i32 : BitVec 32 := 1#32
  let arg9 : BitVec 32 := Scf.iv c0_i32 c1_i32 k0_t1
  let c16_i32 : BitVec 32 := 16#32
  let v8 : BitVec 32 := Scalar.muli arg9 c16_i32
  let v9 : BitVec 32 := Scalar.addi c0_i32_5 v8
  let v11 : Index := Scalar.indexCast v9
  ![v11.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c387072_i32 : BitVec 32 := 387072#32
  let v2 : BitVec 32 := Scalar.muli v1 c387072_i32
  let c0_i32_1 : BitVec 32 := 0#32
  let v4 : BitVec 32 := Scalar.addi v2 c0_i32_1
  ![v4.toNat]
@[reducible] def k0_t2_loop : Scf.Loop 32 :=
  let c0_i32_2 : BitVec 32 := 0#32
  let c42_i32 : BitVec 32 := 42#32
  let v7 : BitVec 32 := Scalar.addi c0_i32_2 c42_i32
  let c1_i32_3 : BitVec 32 := 1#32
  ⟨c0_i32_2, v7, c1_i32_3⟩
def k0_off3 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c387072_i32 : BitVec 32 := 387072#32
  let v2 : BitVec 32 := Scalar.muli v1 c387072_i32
  let c0_i32_6 : BitVec 32 := 0#32
  let c0_i32_2 : BitVec 32 := 0#32
  let c1_i32_3 : BitVec 32 := 1#32
  let arg9 : BitVec 32 := Scf.iv c0_i32_2 c1_i32_3 k0_t2
  let c1_i32_5 : BitVec 32 := 1#32
  let v8 : BitVec 32 := Scalar.muli arg9 c1_i32_5
  let v9 : BitVec 32 := Scalar.addi c0_i32_6 v8
  let c2_i32_7 : BitVec 32 := 2#32
  let v10 : BitVec 32 := Scalar.muli v9 c2_i32_7
  let c1_i32_8 : BitVec 32 := 1#32
  let v11 : BitVec 32 := Scalar.addi v10 c1_i32_8
  let c4608_i32 : BitVec 32 := 4608#32
  let v12 : BitVec 32 := Scalar.muli v11 c4608_i32
  let v13 : BitVec 32 := Scalar.addi v2 v12
  ![v13.toNat]
@[reducible] def k0_t3_loop : Scf.Loop 32 :=
  let c0_i32_11 : BitVec 32 := 0#32
  let c288_i32 : BitVec 32 := 288#32
  let v18 : BitVec 32 := Scalar.addi c0_i32_11 c288_i32
  let c1_i32_12 : BitVec 32 := 1#32
  ⟨c0_i32_11, v18, c1_i32_12⟩
def k0_off4 (k0_t3 : Fin k0_t3_loop.trips) : Fin 1 → Nat :=
  let c0_i32_23 : BitVec 32 := 0#32
  let c0_i32_11 : BitVec 32 := 0#32
  let c1_i32_12 : BitVec 32 := 1#32
  let arg10 : BitVec 32 := Scf.iv c0_i32_11 c1_i32_12 k0_t3
  let c16_i32 : BitVec 32 := 16#32
  let v26 : BitVec 32 := Scalar.muli arg10 c16_i32
  let v27 : BitVec 32 := Scalar.addi c0_i32_23 v26
  let v28 : Index := Scalar.indexCast v27
  ![v28.toNat]

def k0_chk1 (v29 : IVec S16 32) : Prop :=
  (∀ a x, ((![v29] : Fin 1 → IVec S16 32) a x).toNat < S43008.size a)
theorem k0_idx1_inb : ∀ (v29 : IVec S16 32) (k0_hw1 : k0_chk1 v29), ∀ a x, ((![v29] : Fin 1 → IVec S16 32) a x).toNat < S43008.size a := fun v29 k0_hw1 => k0_hw1
def k0_cond1 (k0_t2 : Fin k0_t2_loop.trips) : BitVec 1 :=
  let c0_i32_6 : BitVec 32 := 0#32
  let c0_i32_2 : BitVec 32 := 0#32
  let c1_i32_3 : BitVec 32 := 1#32
  let arg9 : BitVec 32 := Scf.iv c0_i32_2 c1_i32_3 k0_t2
  let c1_i32_5 : BitVec 32 := 1#32
  let v8 : BitVec 32 := Scalar.muli arg9 c1_i32_5
  let v9 : BitVec 32 := Scalar.addi c0_i32_6 v8
  let c1_i32_14 : BitVec 32 := 1#32
  let v19 : BitVec 32 := Scalar.addi v9 c1_i32_14
  let c42_i32_15 : BitVec 32 := 42#32
  let v20 : BitVec 1 := Scalar.cmpi .slt v19 c42_i32_15
  let v21 : BitVec 32 := Scalar.extui v20
  let c0_i32_16 : BitVec 32 := 0#32
  let v22 : BitVec 1 := Scalar.cmpi .ne v21 c0_i32_16
  v22

def k0_off5 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c387072_i32 : BitVec 32 := 387072#32
  let v2 : BitVec 32 := Scalar.muli v1 c387072_i32
  let c0_i32_6 : BitVec 32 := 0#32
  let c0_i32_2 : BitVec 32 := 0#32
  let c1_i32_3 : BitVec 32 := 1#32
  let arg9 : BitVec 32 := Scf.iv c0_i32_2 c1_i32_3 k0_t2
  let c1_i32_5 : BitVec 32 := 1#32
  let v8 : BitVec 32 := Scalar.muli arg9 c1_i32_5
  let v9 : BitVec 32 := Scalar.addi c0_i32_6 v8
  let c2_i32_7 : BitVec 32 := 2#32
  let v10 : BitVec 32 := Scalar.muli v9 c2_i32_7
  let c2_i32_23 : BitVec 32 := 2#32
  let v26 : BitVec 32 := Scalar.addi v10 c2_i32_23
  let c4608_i32_24 : BitVec 32 := 4608#32
  let v27 : BitVec 32 := Scalar.muli v26 c4608_i32_24
  let v28 : BitVec 32 := Scalar.addi v2 v27
  ![v28.toNat]
@[reducible] def k0_t4_loop : Scf.Loop 32 :=
  let c0_i32_19 : BitVec 32 := 0#32
  let c288_i32_20 : BitVec 32 := 288#32
  let v25 : BitVec 32 := Scalar.addi c0_i32_19 c288_i32_20
  let c1_i32_21 : BitVec 32 := 1#32
  ⟨c0_i32_19, v25, c1_i32_21⟩
def k0_off6 (k0_t4 : Fin k0_t4_loop.trips) : Fin 1 → Nat :=
  let c0_i32_23 : BitVec 32 := 0#32
  let c0_i32_19 : BitVec 32 := 0#32
  let c1_i32_21 : BitVec 32 := 1#32
  let arg10 : BitVec 32 := Scf.iv c0_i32_19 c1_i32_21 k0_t4
  let c16_i32 : BitVec 32 := 16#32
  let v26 : BitVec 32 := Scalar.muli arg10 c16_i32
  let v27 : BitVec 32 := Scalar.addi c0_i32_23 v26
  let v28 : Index := Scalar.indexCast v27
  ![v28.toNat]

def k0_chk2 (v29 : IVec S16 32) : Prop :=
  (∀ a x, ((![v29] : Fin 1 → IVec S16 32) a x).toNat < S43008.size a)
theorem k0_idx2_inb : ∀ (v29 : IVec S16 32) (k0_hw2 : k0_chk2 v29), ∀ a x, ((![v29] : Fin 1 → IVec S16 32) a x).toNat < S43008.size a := fun v29 k0_hw2 => k0_hw2
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S12386304 : Shape := ⟨1, ![12386304]⟩
abbrev S32x387072 : Shape := ⟨2, ![32, 387072]⟩
abbrev S32 : Shape := ⟨1, ![32]⟩
abbrev S32x1 : Shape := ⟨2, ![32, 1]⟩
abbrev S_ : Shape := ⟨0, ![]⟩
abbrev S1376256 : Shape := ⟨1, ![1376256]⟩
abbrev S12386304x1 : Shape := ⟨2, ![12386304, 1]⟩
abbrev S32x43008 : Shape := ⟨2, ![32, 43008]⟩

abbrev nBuf : Space → Nat
  | .hbm => 24
  | .vmem => 0
  | .smem => 0
  | _ => 0

abbrev bufTy : (tb : Table) → Fin (tcTables nBuf tb) → BufTy
  | .hbm, ⟨0, _⟩ => ⟨S12386304, .i32⟩
  | .hbm, ⟨1, _⟩ => ⟨S32x387072, .i32⟩
  | .hbm, ⟨2, _⟩ => ⟨S32, .i32⟩
  | .hbm, ⟨3, _⟩ => ⟨S32x1, .i32⟩
  | .hbm, ⟨4, _⟩ => ⟨S_, .i32⟩
  | .hbm, ⟨5, _⟩ => ⟨S32x1, .i32⟩
  | .hbm, ⟨6, _⟩ => ⟨S32x1, .i32⟩
  | .hbm, ⟨7, _⟩ => ⟨S32x387072, .i32⟩
  | .hbm, ⟨8, _⟩ => ⟨S32x387072, .i32⟩
  | .hbm, ⟨9, _⟩ => ⟨S_, .i32⟩
  | .hbm, ⟨10, _⟩ => ⟨S1376256, .i32⟩
  | .hbm, ⟨11, _⟩ => ⟨S12386304, .i32⟩
  | .hbm, ⟨12, _⟩ => ⟨S_, .i32⟩
  | .hbm, ⟨13, _⟩ => ⟨S12386304, .i32⟩
  | .hbm, ⟨14, _⟩ => ⟨S12386304, .i1⟩
  | .hbm, ⟨15, _⟩ => ⟨S_, .i32⟩
  | .hbm, ⟨16, _⟩ => ⟨S12386304, .i32⟩
  | .hbm, ⟨17, _⟩ => ⟨S12386304, .i32⟩
  | .hbm, ⟨18, _⟩ => ⟨S12386304, .i32⟩
  | .hbm, ⟨19, _⟩ => ⟨S12386304x1, .i32⟩
  | .hbm, ⟨20, _⟩ => ⟨S_, .i32⟩
  | .hbm, ⟨21, _⟩ => ⟨S12386304, .i32⟩
  | .hbm, ⟨22, _⟩ => ⟨S1376256, .i32⟩
  | .hbm, ⟨23, _⟩ => ⟨S32x43008, .i32⟩
  | _, _ => ⟨S12386304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_c_1 : Ref sig .tc := ⟨.hbm, 12, rfl⟩
abbrev main_v9 : Ref sig .tc := ⟨.hbm, 13, rfl⟩
abbrev main_v10 : Ref sig .tc := ⟨.hbm, 14, rfl⟩
abbrev main_c_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== LossIdeal.lean ====
abbrev S4x21x384x384 : Shape := ⟨4, ![4, 21, 384, 384]⟩
abbrev S4x384x384 : Shape := ⟨3, ![4, 384, 384]⟩
abbrev S4x21x147456 : Shape := ⟨3, ![4, 21, 147456]⟩
abbrev S4x1x147456 : Shape := ⟨3, ![4, 1, 147456]⟩
abbrev S1x21x9216 : Shape := ⟨3, ![1, 21, 9216]⟩
abbrev S1x1x9216 : Shape := ⟨3, ![1, 1, 9216]⟩
abbrev S21x9216 : Shape := ⟨2, ![21, 9216]⟩
abbrev S1x9216 : Shape := ⟨2, ![1, 9216]⟩
abbrev S9216 : Shape := ⟨1, ![9216]⟩
abbrev S12386304 : Shape := ⟨1, ![12386304]⟩
abbrev S32x43008 : Shape := ⟨2, ![32, 43008]⟩
abbrev S4608 : Shape := ⟨1, ![4608]⟩
abbrev S43008 : Shape := ⟨1, ![43008]⟩
abbrev S_ : Shape := ⟨0, ![]⟩
abbrev S16 : Shape := ⟨1, ![16]⟩
abbrev S1x43008 : Shape := ⟨2, ![1, 43008]⟩
abbrev S32x2x21x1024 : Shape := ⟨4, ![32, 2, 21, 1024]⟩
abbrev S1x1 : Shape := ⟨2, ![1, 1]⟩
abbrev S1x2x21x1024 : Shape := ⟨4, ![1, 2, 21, 1024]⟩
abbrev S2x21x1024 : Shape := ⟨3, ![2, 21, 1024]⟩
abbrev S1x21x1024 : Shape := ⟨3, ![1, 21, 1024]⟩
abbrev S21x1024 : Shape := ⟨2, ![21, 1024]⟩
abbrev S1024x1024 : Shape := ⟨2, ![1024, 1024]⟩
abbrev S1 : Shape := ⟨1, ![1]⟩
abbrev S1x1x1 : Shape := ⟨3, ![1, 1, 1]⟩

abbrev nBuf : Table → Nat
  | .hbm => 10
  | .local .tc .vmem => 8
  | .local .scVector .vmem => 3
  | _ => 0

abbrev bufTy : (tb : Table) → Fin (nBuf tb) → BufTy
  | .hbm, ⟨0, _⟩ => ⟨S4x21x384x384, .f32⟩
  | .hbm, ⟨1, _⟩ => ⟨S4x384x384, .i32⟩
  | .hbm, ⟨2, _⟩ => ⟨S4x21x147456, .f32⟩
  | .hbm, ⟨3, _⟩ => ⟨S4x1x147456, .i32⟩
  | .hbm, ⟨4, _⟩ => ⟨S4x21x147456, .i32⟩
  | .hbm, ⟨5, _⟩ => ⟨S12386304, .i32⟩
  | .hbm, ⟨6, _⟩ => ⟨S32x43008, .i32⟩
  | .hbm, ⟨7, _⟩ => ⟨S32x2x21x1024, .i32⟩
  | .hbm, ⟨8, _⟩ => ⟨S1x1, .f32⟩
  | .hbm, ⟨9, _⟩ => ⟨S_, .f32⟩
  | .local .tc .vmem, ⟨0, _⟩ => ⟨S1x21x9216, .f32⟩
  | .local .tc .vmem, ⟨1, _⟩ => ⟨S1x21x9216, .f32⟩
  | .local .tc .vmem, ⟨2, _⟩ => ⟨S1x1x9216, .i32⟩
  | .local .tc .vmem, ⟨3, _⟩ => ⟨S1x1x9216, .i32⟩
  | .local .tc .vmem, ⟨4, _⟩ => ⟨S1x21x9216, .i32⟩
  | .local .tc .vmem, ⟨5, _⟩ => ⟨S1x21x9216, .i32⟩
  | .local .tc .vmem, ⟨6, _⟩ => ⟨S32x2x21x1024, .i32⟩
  | .local .tc .vmem, ⟨7, _⟩ => ⟨S1x1, .f32⟩
  | .local .scVector .vmem, ⟨0, _⟩ => ⟨S4608, .i32⟩
  | .local .scVector .vmem, ⟨1, _⟩ => ⟨S4608, .i32⟩
  | .local .scVector .vmem, ⟨2, _⟩ => ⟨S43008, .i32⟩
  | _, _ => ⟨S4x21x384x384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v3_scv : Ref sig .scVector := ⟨.hbm, 5, rfl⟩
abbrev main_v4_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 9
abbrev cc2_sem1_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "per_bin" => some ((21504⁻¹ : ℝ) : EReal)
  | _ => none

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x21x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x9216 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x21x9216 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

@[reducible] def k1_t1_loop : Scf.Loop 32 :=
  let c0_i32 : BitVec 32 := 0#32
  let c2688_i32 : BitVec 32 := 2688#32
  let v3 : BitVec 32 := Scalar.addi c0_i32 c2688_i32
  let c1_i32 : BitVec 32 := 1#32
  ⟨c0_i32, v3, c1_i32⟩
def k1_off1 (k1_t1 : Fin k1_t1_loop.trips) : Fin 1 → Nat :=
  let c0_i32_5 : BitVec 32 := 0#32
  let c0_i32 : BitVec 32 := 0#32
  let c1_i32 : BitVec 32 := 1#32
  let arg9 : BitVec 32 := Scf.iv c0_i32 c1_i32 k1_t1
  let c16_i32 : BitVec 32 := 16#32
  let v8 : BitVec 32 := Scalar.muli arg9 c16_i32
  let v9 : BitVec 32 := Scalar.addi c0_i32_5 v8
  let v11 : Index := Scalar.indexCast v9
  ![v11.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c387072_i32 : BitVec 32 := 387072#32
  let v2 : BitVec 32 := Scalar.muli v1 c387072_i32
  let c0_i32_1 : BitVec 32 := 0#32
  let v4 : BitVec 32 := Scalar.addi v2 c0_i32_1
  ![v4.toNat]
@[reducible] def k1_t2_loop : Scf.Loop 32 :=
  let c0_i32_2 : BitVec 32 := 0#32
  let c42_i32 : BitVec 32 := 42#32
  let v7 : BitVec 32 := Scalar.addi c0_i32_2 c42_i32
  let c1_i32_3 : BitVec 32 := 1#32
  ⟨c0_i32_2, v7, c1_i32_3⟩
def k1_off3 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c387072_i32 : BitVec 32 := 387072#32
  let v2 : BitVec 32 := Scalar.muli v1 c387072_i32
  let c0_i32_6 : BitVec 32 := 0#32
  let c0_i32_2 : BitVec 32 := 0#32
  let c1_i32_3 : BitVec 32 := 1#32
  let arg9 : BitVec 32 := Scf.iv c0_i32_2 c1_i32_3 k1_t2
  let c1_i32_5 : BitVec 32 := 1#32
  let v8 : BitVec 32 := Scalar.muli arg9 c1_i32_5
  let v9 : BitVec 32 := Scalar.addi c0_i32_6 v8
  let c2_i32_7 : BitVec 32 := 2#32
  let v10 : BitVec 32 := Scalar.muli v9 c2_i32_7
  let c1_i32_8 : BitVec 32 := 1#32
  let v11 : BitVec 32 := Scalar.addi v10 c1_i32_8
  let c4608_i32 : BitVec 32 := 4608#32
  let v12 : BitVec 32 := Scalar.muli v11 c4608_i32
  let v13 : BitVec 32 := Scalar.addi v2 v12
  ![v13.toNat]
@[reducible] def k1_t3_loop : Scf.Loop 32 :=
  let c0_i32_11 : BitVec 32 := 0#32
  let c288_i32 : BitVec 32 := 288#32
  let v18 : BitVec 32 := Scalar.addi c0_i32_11 c288_i32
  let c1_i32_12 : BitVec 32 := 1#32
  ⟨c0_i32_11, v18, c1_i32_12⟩
def k1_off4 (k1_t3 : Fin k1_t3_loop.trips) : Fin 1 → Nat :=
  let c0_i32_23 : BitVec 32 := 0#32
  let c0_i32_11 : BitVec 32 := 0#32
  let c1_i32_12 : BitVec 32 := 1#32
  let arg10 : BitVec 32 := Scf.iv c0_i32_11 c1_i32_12 k1_t3
  let c16_i32 : BitVec 32 := 16#32
  let v26 : BitVec 32 := Scalar.muli arg10 c16_i32
  let v27 : BitVec 32 := Scalar.addi c0_i32_23 v26
  let v28 : Index := Scalar.indexCast v27
  ![v28.toNat]

def k1_chk1 (v29 : IVec S16 32) : Prop :=
  (∀ a x, ((![v29] : Fin 1 → IVec S16 32) a x).toNat < S43008.size a)
theorem k1_idx1_inb : ∀ (v29 : IVec S16 32) (k1_hw1 : k1_chk1 v29), ∀ a x, ((![v29] : Fin 1 → IVec S16 32) a x).toNat < S43008.size a := fun v29 k1_hw1 => k1_hw1
def k1_cond1 (k1_t2 : Fin k1_t2_loop.trips) : BitVec 1 :=
  let c0_i32_6 : BitVec 32 := 0#32
  let c0_i32_2 : BitVec 32 := 0#32
  let c1_i32_3 : BitVec 32 := 1#32
  let arg9 : BitVec 32 := Scf.iv c0_i32_2 c1_i32_3 k1_t2
  let c1_i32_5 : BitVec 32 := 1#32
  let v8 : BitVec 32 := Scalar.muli arg9 c1_i32_5
  let v9 : BitVec 32 := Scalar.addi c0_i32_6 v8
  let c1_i32_14 : BitVec 32 := 1#32
  let v19 : BitVec 32 := Scalar.addi v9 c1_i32_14
  let c42_i32_15 : BitVec 32 := 42#32
  let v20 : BitVec 1 := Scalar.cmpi .slt v19 c42_i32_15
  let v21 : BitVec 32 := Scalar.extui v20
  let c0_i32_16 : BitVec 32 := 0#32
  let v22 : BitVec 1 := Scalar.cmpi .ne v21 c0_i32_16
  v22

def k1_off5 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c387072_i32 : BitVec 32 := 387072#32
  let v2 : BitVec 32 := Scalar.muli v1 c387072_i32
  let c0_i32_6 : BitVec 32 := 0#32
  let c0_i32_2 : BitVec 32 := 0#32
  let c1_i32_3 : BitVec 32 := 1#32
  let arg9 : BitVec 32 := Scf.iv c0_i32_2 c1_i32_3 k1_t2
  let c1_i32_5 : BitVec 32 := 1#32
  let v8 : BitVec 32 := Scalar.muli arg9 c1_i32_5
  let v9 : BitVec 32 := Scalar.addi c0_i32_6 v8
  let c2_i32_7 : BitVec 32 := 2#32
  let v10 : BitVec 32 := Scalar.muli v9 c2_i32_7
  let c2_i32_23 : BitVec 32 := 2#32
  let v26 : BitVec 32 := Scalar.addi v10 c2_i32_23
  let c4608_i32_24 : BitVec 32 := 4608#32
  let v27 : BitVec 32 := Scalar.muli v26 c4608_i32_24
  let v28 : BitVec 32 := Scalar.addi v2 v27
  ![v28.toNat]
@[reducible] def k1_t4_loop : Scf.Loop 32 :=
  let c0_i32_19 : BitVec 32 := 0#32
  let c288_i32_20 : BitVec 32 := 288#32
  let v25 : BitVec 32 := Scalar.addi c0_i32_19 c288_i32_20
  let c1_i32_21 : BitVec 32 := 1#32
  ⟨c0_i32_19, v25, c1_i32_21⟩
def k1_off6 (k1_t4 : Fin k1_t4_loop.trips) : Fin 1 → Nat :=
  let c0_i32_23 : BitVec 32 := 0#32
  let c0_i32_19 : BitVec 32 := 0#32
  let c1_i32_21 : BitVec 32 := 1#32
  let arg10 : BitVec 32 := Scf.iv c0_i32_19 c1_i32_21 k1_t4
  let c16_i32 : BitVec 32 := 16#32
  let v26 : BitVec 32 := Scalar.muli arg10 c16_i32
  let v27 : BitVec 32 := Scalar.addi c0_i32_23 v26
  let v28 : Index := Scalar.indexCast v27
  ![v28.toNat]

def k1_chk2 (v29 : IVec S16 32) : Prop :=
  (∀ a x, ((![v29] : Fin 1 → IVec S16 32) a x).toNat < S43008.size a)
theorem k1_idx2_inb : ∀ (v29 : IVec S16 32) (k1_hw2 : k1_chk2 v29), ∀ a x, ((![v29] : Fin 1 → IVec S16 32) a x).toNat < S43008.size a := fun v29 k1_hw2 => k1_hw2
def k1_off7 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r0 : BitVec 32 := 0#32
  ![v1.toNat, 0]
abbrev grid2 : Pipeline.Grid := .none

abbrev stage2_0 : Fin 1 → Memref sig .tc .vmem S32x2x21x1024 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== LossReferenceIdeal.lean ====
abbrev S4x21x384x384 : Shape := ⟨4, ![4, 21, 384, 384]⟩
abbrev S4x384x384 : Shape := ⟨3, ![4, 384, 384]⟩
abbrev S21x4x384x384 : Shape := ⟨4, ![21, 4, 384, 384]⟩
abbrev S21x589824 : Shape := ⟨2, ![21, 589824]⟩
abbrev S589824 : Shape := ⟨1, ![589824]⟩
abbrev S_ : Shape := ⟨0, ![]⟩
abbrev S1x589824 : Shape := ⟨2, ![1, 589824]⟩
abbrev S21x1 : Shape := ⟨2, ![21, 1]⟩
abbrev S21 : Shape := ⟨1, ![21]⟩
abbrev S21x589823 : Shape := ⟨2, ![21, 589823]⟩

abbrev nBuf : Space → Nat
  | .hbm => 74
  | .vmem => 0
  | .smem => 0
  | _ => 0

abbrev bufTy : (tb : Table) → Fin (tcTables nBuf tb) → BufTy
  | .hbm, ⟨0, _⟩ => ⟨S4x21x384x384, .f32⟩
  | .hbm, ⟨1, _⟩ => ⟨S4x384x384, .i32⟩
  | .hbm, ⟨2, _⟩ => ⟨S21x4x384x384, .f32⟩
  | .hbm, ⟨3, _⟩ => ⟨S21x589824, .f32⟩
  | .hbm, ⟨4, _⟩ => ⟨S589824, .i32⟩
  | .hbm, ⟨5, _⟩ => ⟨S_, .f32⟩
  | .hbm, ⟨6, _⟩ => ⟨S589824, .f32⟩
  | .hbm, ⟨7, _⟩ => ⟨S_, .f32⟩
  | .hbm, ⟨8, _⟩ => ⟨S589824, .f32⟩
  | .hbm, ⟨9, _⟩ => ⟨S589824, .f32⟩
  | .hbm, ⟨10, _⟩ => ⟨S1x589824, .f32⟩
  | .hbm, ⟨11, _⟩ => ⟨S21x589824, .f32⟩
  | .hbm, ⟨12, _⟩ => ⟨S21x589824, .f32⟩
  | .hbm, ⟨13, _⟩ => ⟨S21x589824, .f32⟩
  | .hbm, ⟨14, _⟩ => ⟨S_, .f32⟩
  | .hbm, ⟨15, _⟩ => ⟨S589824, .f32⟩
  | .hbm, ⟨16, _⟩ => ⟨S1x589824, .f32⟩
  | .hbm, ⟨17, _⟩ => ⟨S21x589824, .f32⟩
  | .hbm, ⟨18, _⟩ => ⟨S21x589824, .f32⟩
  | .hbm, ⟨19, _⟩ => ⟨S1x589824, .i32⟩
  | .hbm, ⟨20, _⟩ => ⟨S21x1, .i32⟩
  | .hbm, ⟨21, _⟩ => ⟨S21x589824, .i32⟩
  | .hbm, ⟨22, _⟩ => ⟨S21x589824, .i32⟩
  | .hbm, ⟨23, _⟩ => ⟨S21x589824, .i1⟩
  | .hbm, ⟨24, _⟩ => ⟨S21x589824, .f32⟩
  | .hbm, ⟨25, _⟩ => ⟨S21x589824, .f32⟩
  | .hbm, ⟨26, _⟩ => ⟨S21x589824, .f32⟩
  | .hbm, ⟨27, _⟩ => ⟨S_, .f32⟩
  | .hbm, ⟨28, _⟩ => ⟨S21x589824, .f32⟩
  | .hbm, ⟨29, _⟩ => ⟨S21x589824, .f32⟩
  | .hbm, ⟨30, _⟩ => ⟨S21x589824, .f32⟩
  | .hbm, ⟨31, _⟩ => ⟨S_, .f32⟩
  | .hbm, ⟨32, _⟩ => ⟨S21x589824, .f32⟩
  | .hbm, ⟨33, _⟩ => ⟨S21x589824, .f32⟩
  | .hbm, ⟨34, _⟩ => ⟨S_, .f32⟩
  | .hbm, ⟨35, _⟩ => ⟨S21x589824, .f32⟩
  | .hbm, ⟨36, _⟩ => ⟨S21x589824, .f32⟩
  | .hbm, ⟨37, _⟩ => ⟨S_, .f32⟩
  | .hbm, ⟨38, _⟩ => ⟨S21x589824, .f32⟩
  | .hbm, ⟨39, _⟩ => ⟨S21x589824, .f32⟩
  | .hbm, ⟨40, _⟩ => ⟨S21x589824, .f32⟩
  | .hbm, ⟨41, _⟩ => ⟨S21x589824, .f32⟩
  | .hbm, ⟨42, _⟩ => ⟨S21x589824, .f32⟩
  | .hbm, ⟨43, _⟩ => ⟨S21x589824, .f32⟩
  | .hbm, ⟨44, _⟩ => ⟨S_, .f32⟩
  | .hbm, ⟨45, _⟩ => ⟨S21, .f32⟩
  | .hbm, ⟨46, _⟩ => ⟨S21x1, .f32⟩
  | .hbm, ⟨47, _⟩ => ⟨S_, .f32⟩
  | .hbm, ⟨48, _⟩ => ⟨S_, .f32⟩
  | .hbm, ⟨49, _⟩ => ⟨S21x589824, .f32⟩
  | .hbm, ⟨50, _⟩ => ⟨S21x589824, .f32⟩
  | .hbm, ⟨51, _⟩ => ⟨S21x589824, .f32⟩
  | .hbm, ⟨52, _⟩ => ⟨S_, .f32⟩
  | .hbm, ⟨53, _⟩ => ⟨S21x589824, .f32⟩
  | .hbm, ⟨54, _⟩ => ⟨S21x589824, .f32⟩
  | .hbm, ⟨55, _⟩ => ⟨S_, .f32⟩
  | .hbm, ⟨56, _⟩ => ⟨S_, .f32⟩
  | .hbm, ⟨57, _⟩ => ⟨S21x589824, .f32⟩
  | .hbm, ⟨58, _⟩ => ⟨S21x589824, .f32⟩
  | .hbm, ⟨59, _⟩ => ⟨S21x589824, .f32⟩
  | .hbm, ⟨60, _⟩ => ⟨S21x589824, .f32⟩
  | .hbm, ⟨61, _⟩ => ⟨S_, .f32⟩
  | .hbm, ⟨62, _⟩ => ⟨S21x589824, .f32⟩
  | .hbm, ⟨63, _⟩ => ⟨S21x589824, .f32⟩
  | .hbm, ⟨64, _⟩ => ⟨S21x1, .f32⟩
  | .hbm, ⟨65, _⟩ => ⟨S21x589823, .f32⟩
  | .hbm, ⟨66, _⟩ => ⟨S21x589823, .f32⟩
  | .hbm, ⟨67, _⟩ => ⟨S21x589823, .f32⟩
  | .hbm, ⟨68, _⟩ => ⟨S21x589824, .f32⟩
  | .hbm, ⟨69, _⟩ => ⟨S21, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S4x21x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_call1_call0_cst : Ref sig .tc := ⟨.hbm, 47, rfl⟩
abbrev main_call1_call0_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_call2_call0_cst : Ref sig .tc := ⟨.hbm, 55, rfl⟩
abbrev main_call2_call0_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== Proof.Count.lean ====
/-
  Counting words: the tally of a sequence of words by value, and what one masked scatter-add of running counts does to a
  histogram. `scan_count` numbers the equal lanes of a vector and marks the last lane of every value; adding, at the
  marked lanes only, each lane's number at the place its value names raises each place by how many lanes hold it.
-/
module

public import Idealize.ShloMosaic.Lib.Routing.Ops
public import Idealize.ShloMosaic.Lib.Routing.OpsPair
public import Mathlib.Algebra.BigOperators.Fin
public import Mathlib.Data.BitVec

@[expose] public section

namespace Cert.Proof

open Idealize.ShloMosaic Idealize.ShloMosaic.ValueIdx Idealize.ShloMosaic.Routing

/-- How many of the first `n` words of `g` have the value `k`, as a 32-bit word. -/
def tally (g : ℕ → BitVec 32) (n k : ℕ) : BitVec 32 :=
  BitVec.ofNat 32 ((Finset.range n).filter fun j => (g j).toNat = k).card

theorem tally_zero (g : ℕ → BitVec 32) (k : ℕ) : tally g 0 k = 0#32 := by simp [tally]

/-- The tally of `n + b` words is that of the first `n` and, on top, that of the `b` after them. -/
theorem tally_add (g : ℕ → BitVec 32) (n b k : ℕ) :
    tally g (n + b) k = tally g n k + BitVec.ofNat 32 ((Finset.range b).filter fun j => (g (n + j)).toNat = k).card := by
  unfold tally
  rw [← BitVec.ofNat_add]
  congr 1
  have e : (Finset.range (n + b)).filter (fun j => (g j).toNat = k)
      = (Finset.range n).filter (fun j => (g j).toNat = k)
        ∪ ((Finset.range b).filter fun j => (g (n + j)).toNat = k).map (addLeftEmbedding n) := by
    ext j
    simp only [Finset.mem_filter, Finset.mem_range, Finset.mem_union, Finset.mem_map, addLeftEmbedding_apply]
    constructor
    · rintro ⟨h1, h2⟩
      by_cases hj : j < n
      · exact .inl ⟨hj, h2⟩
      · exact .inr ⟨j - n, ⟨by omega, by rw [show n + (j - n) = j by omega]; exact h2⟩, by omega⟩
    · rintro (⟨h1, h2⟩ | ⟨i, ⟨h1, h2⟩, rfl⟩)
      · exact ⟨by omega, h2⟩
      · exact ⟨by omega, h2⟩
  rw [e, Finset.card_union_of_disjoint, Finset.card_map]
  refine Finset.disjoint_left.mpr fun j h1 h2 => ?_
  obtain ⟨i, -, rfl⟩ := Finset.mem_map.mp h2
  simp only [Finset.mem_filter, Finset.mem_range, addLeftEmbedding_apply] at h1
  omega

variable {F : FTy → Type} [FloatOps F]

/-- A fold that adds, step by step, `c x` at the place `p x` (where there is one) leaves at `j` the start and the sum of
    what was added there. -/
theorem foldl_add_at {α β : Type} [DecidableEq β] (p : α → Option β) (c : α → BitVec 32) (l : List α) (f : β → BitVec 32) (j : β) :
    (l.foldl (fun g x => match p x with | some i => fun j => if j = i then g i + c x else g j | none => g) f) j
      = f j + (l.map fun x => if p x = some j then c x else 0#32).sum := by
  induction l generalizing f with
  | nil => simp
  | cons x l ih =>
    rw [List.foldl_cons, ih, List.map_cons, List.sum_cons]
    rcases h : p x with _ | i
    · simp
    · by_cases hj : j = i
      · subst hj; simp [BitVec.add_assoc]
      · simp [hj, show ¬ i = j from fun e => hj e.symm]

/-- A sum of words over `0 … n - 1` in order, as a sum over `Fin n`. -/
theorem sum_finRange {n : ℕ} (c : Fin n → BitVec 32) : ((List.finRange n).map c).sum = ∑ k, c k := (Fin.sum_univ_def c).symm

/-- The masked scatter-add of `scan_count`'s counts at the lanes it marks raises place `j` by the number of lanes whose
    value is `j`. -/
theorem storeIdx_scanCount {n N : ℕ} (f : Vec F (shape1 N) .i32) (v : IVec (shape1 n) 32)
    (h : ∀ a x, ((![v] : Fin 1 → IVec (shape1 n) 32) a x).toNat < (shape1 N).size a) (j : (shape1 N).Idx) :
    storeIdx (F := F) (e := .i32) f ![v] (scanCount (broadcast (shape1 n) 1#1) v).2 (scanCount (broadcast (shape1 n) 1#1) v).1 true h j
      = (f j : BitVec 32) + BitVec.ofNat 32 (Finset.univ.filter fun k : Fin n => (v (ix1 k)).toNat = (j 0).val).card := by
  set mk := (scanCount (broadcast (shape1 n) 1#1) v).1 with hmk
  set ct := (scanCount (broadcast (shape1 n) 1#1) v).2 with hct
  have hlane : ∀ k : Fin n, (Shape.ofLane (d := ![n]) k) = ix1 k := fun k => eq_ix1 _
  have hat : ∀ k : Fin n, idxAt ![v] h (ix1 k) = j ↔ (v (ix1 k)).toNat = (j 0).val := by
    intro k
    constructor
    · intro e; rw [← e]; rfl
    · intro e; funext a
      match a with
      | ⟨0, _⟩ => exact Fin.ext e
  have hfold := foldl_add_at (β := (shape1 N).Idx) (fun k : Fin n => if mk (ix1 k) = 1 then some (idxAt ![v] h (ix1 k)) else none)
    (fun k => ct (ix1 k)) (List.finRange n) f j
  have hst : storeIdx (F := F) (e := .i32) f ![v] ct mk true h j
      = (f j : BitVec 32) + ((List.finRange n).map fun k : Fin n =>
          if (if mk (ix1 k) = 1 then some (idxAt ![v] h (ix1 k)) else none) = some j then ct (ix1 k) else 0#32).sum := by
    refine Eq.trans ?_ hfold
    unfold storeIdx
    refine congrFun (congrArg (fun φ : ((shape1 N).Idx → BitVec 32) → Fin n → ((shape1 N).Idx → BitVec 32) => List.foldl φ f (List.finRange n)) ?_) j
    funext g k
    have hl := hlane k
    show (if mk (Shape.ofLane (d := ![n]) k) = 1 then _ else g) = _
    rw [hl]
    by_cases hm : mk (ix1 k) = 1
    · rw [if_pos hm]
      simp only [if_pos hm]
      funext j'
      refine if_congr ?_ rfl rfl
      exact ⟨fun e => funext fun a => Fin.ext (e a), fun e a => by rw [e]⟩
    · rw [if_neg hm]
      simp only [if_neg hm]
  rw [hst, sum_finRange]
  congr 1
  -- the marked lanes at `j` are the last of them alone
  have hp : ∀ k : Fin n, ((if mk (ix1 k) = 1 then some (idxAt ![v] h (ix1 k)) else none) = some j)
      ↔ (v (ix1 k)).toNat = (j 0).val ∧ ∀ k' : Fin n, k < k' → v (ix1 k') ≠ v (ix1 k) := by
    intro k
    have hm : mk (ix1 k) = 1 ↔ ∀ k' : Fin n, k < k' → v (ix1 k') ≠ v (ix1 k) := by
      rw [hmk]; unfold scanCount
      simp only [broadcast, Shape.rowMajor_val_one]
      constructor
      · intro e
        split at e
        · next e' => exact fun k' hk' ev => e'.2 (ix1 k') hk' ⟨rfl, ev⟩
        · exact absurd e (by decide)
      · intro e
        refine if_pos ⟨rfl, fun x hx ev => e (x 0) hx ?_⟩
        exact (congrArg v (eq_ix1 x)).symm.trans ev.2
    split
    · next e => rw [Option.some_inj, hat]; exact ⟨fun q => ⟨q, hm.1 e⟩, fun q => q.1⟩
    · next e => exact ⟨fun q => (Option.noConfusion rfl (heq_of_eq q)), fun q => absurd (hm.2 q.2) e⟩
  have hc : ∀ k : Fin n, ct (ix1 k) = BitVec.ofNat 32 (Finset.univ.filter fun k' : Fin n => k' ≤ k ∧ v (ix1 k') = v (ix1 k)).card := by
    intro k
    rw [hct]; unfold scanCount
    simp only [broadcast, Shape.rowMajor_val_one, true_and]
    refine (if_pos rfl).trans (congrArg (BitVec.ofNat 32) ?_)
    refine Finset.card_bij (fun (x : (shape1 n).Idx) _ => x 0) (fun x hx => ?_) (fun x _ y _ e => ?_) (fun k' hk' => ?_)
    · have hx := (Finset.mem_filter.mp hx).2
      exact Finset.mem_filter.mpr ⟨Finset.mem_univ _, hx.1, (congrArg v (eq_ix1 x)).symm.trans hx.2.2⟩
    · rw [eq_ix1 x, eq_ix1 y]; exact congrArg _ e
    · exact ⟨ix1 k', Finset.mem_filter.mpr ⟨Finset.mem_univ _, (Finset.mem_filter.mp hk').2.1, rfl, (Finset.mem_filter.mp hk').2.2⟩, rfl⟩
  simp only [hp, hc]
  rcases (Finset.univ.filter fun k : Fin n => (v (ix1 k)).toNat = (j 0).val).eq_empty_or_nonempty with he | hne
  · rw [he, Finset.card_empty]
    refine Finset.sum_eq_zero fun k _ => if_neg fun q => ?_
    have : k ∈ (Finset.univ.filter fun k : Fin n => (v (ix1 k)).toNat = (j 0).val) := Finset.mem_filter.mpr ⟨Finset.mem_univ _, q.1⟩
    rw [he] at this; exact absurd this (Finset.notMem_empty k)
  · obtain ⟨k0, hk0, hmax⟩ := Finset.exists_max_image _ (fun k : Fin n => k) hne
    have hv0 := (Finset.mem_filter.mp hk0).2
    have hmem : ∀ k : Fin n, v (ix1 k) = v (ix1 k0) ↔ (v (ix1 k)).toNat = (j 0).val := fun k => by
      rw [← hv0]; exact BitVec.toNat_eq
    rw [Finset.sum_eq_single k0]
    · rw [if_pos ⟨hv0, fun k' hk' e => absurd (hmax k' (Finset.mem_filter.mpr ⟨Finset.mem_univ _, (hmem k').1 e⟩)) (not_le.mpr hk')⟩]
      congr 2
      ext k
      simp only [Finset.mem_filter, Finset.mem_univ, true_and, hmem]
      exact ⟨fun q => q.2, fun q => ⟨hmax k (Finset.mem_filter.mpr ⟨Finset.mem_univ _, q⟩), q⟩⟩
    · intro k _ hne'
      refine if_neg fun q => ?_
      have hle := hmax k (Finset.mem_filter.mpr ⟨Finset.mem_univ _, q.1⟩)
      exact q.2 k0 (lt_of_le_of_ne hle hne') ((hmem k).2 q.1).symm
    · intro q; exact absurd (Finset.mem_univ _) q

theorem countP_finRange_cast {K M : ℕ} (e : K = M) (p : Fin M → Prop) [DecidablePred p] :
    (List.finRange K).countP (fun n => decide (p (n.cast e))) = (Finset.univ.filter p).card := by
  subst e
  rw [Finset.card_def, Finset.filter_val, ← Multiset.countP_eq_card_filter]
  rfl

/-- `x.at[idx].add(upd)` of `M` scalars into a vector of `N`, one index word each: entry `x` gains every update whose
    index word, read signed, is `x`. -/
theorem scatter_add_one {N M : ℕ} (d : ScatterDims (shape1 N) (shape2 M 1) (shape1 M)) (hiw : d.insertedWindowDims = [0])
    (hsd : d.scatterDimsToOperandDims = [0]) (hivd : d.indexVectorDim = 1) (x0 : IVec (shape1 N) 32) (idx : IVec (shape2 M 1) 32)
    (upd : IVec (shape1 M) 32) (hupd : ∀ i, upd i = 1#32) (x : Fin N) :
    Host.scatter d IntOp.addi x0 idx upd (ix1 x)
      = x0 (ix1 x) + BitVec.ofNat 32 (Finset.univ.filter fun k : Fin M => (idx (ix2 k (0 : Fin 1))).toInt = (x.val : Int)).card := by
  have hm : (0 : Fin 1) ∈ d.scatterDimsToOperandDims := by rw [hsd]; exact List.mem_singleton.2 rfl
  have hlands : ∀ k : Fin M, d.resultIdx? (ix1 k) idx = some (ix1 x) ↔ (idx (ix2 k (0 : Fin 1))).toInt = (x.val : Int) := by
    intro k
    have hwin : d.window (ix1 k) 0 = 0 := by
      unfold ScatterDims.window
      rw [dif_neg fun h => (of_decide_eq_true (List.mem_filter.1 h).2) (by rw [hiw]; exact List.mem_singleton.2 rfl)]
    have hstart : d.start (ix1 k) idx 0 = (idx (ix2 k (0 : Fin 1))).toInt := by
      unfold ScatterDims.start
      rw [dif_pos hm]
      refine congrArg (fun y => (idx y).toInt) (funext fun b' => Fin.ext ?_)
      match b' with
      | ⟨0, _⟩ =>
        unfold ScatterDims.siIdx
        rw [dif_neg (by rw [hivd]; exact Nat.zero_ne_one)]
        unfold ScatterDims.siCoord
        simp only [Fin.val_cast]
        have e : ∀ X : Fin 1, (ix1 k X).val = k.val := fun X => by rw [Fin.eq_zero X]
        exact e _
      | ⟨1, _⟩ =>
        unfold ScatterDims.siIdx
        rw [dif_pos (by rw [hivd])]
        show List.idxOf (0 : Fin 1) d.scatterDimsToOperandDims = 0
        rw [hsd]; simp
    rw [resultIdx?_eq_some]
    constructor
    · intro e
      have e0 : d.start (ix1 k) idx 0 + (d.window (ix1 k) 0 : Int) = (x.val : Int) := e 0
      rw [hwin, hstart] at e0
      simpa using e0
    · intro e a
      match a with
      | ⟨0, _⟩ =>
        show d.start (ix1 k) idx 0 + (d.window (ix1 k) 0 : Int) = (x.val : Int)
        rw [hwin, hstart]; simpa using e
  rw [scatter_at]
  have hgen : ∀ (l : List (Fin (shape1 M).numel)) (a : BitVec 32),
      l.foldl (fun a n => if d.resultIdx? ((shape1 M).rowMajor.symm n) idx = some (ix1 x) then IntOp.addi a (upd ((shape1 M).rowMajor.symm n)) else a) a
        = a + BitVec.ofNat 32 (l.countP fun n => (idx (ix2 (n.cast (numel1 M)) (0 : Fin 1))).toInt = (x.val : Int)) := by
    intro l
    induction l with
    | nil => intro a; simp
    | cons n l ih =>
      intro a
      rw [List.foldl_cons, ih, symm1]
      simp only [hlands]
      by_cases e : (idx (ix2 (n.cast (numel1 M)) (0 : Fin 1))).toInt = (x.val : Int)
      · rw [if_pos e, List.countP_cons_of_pos (by simpa using e), hupd, Nat.add_comm _ 1, BitVec.ofNat_add]
        show a + 1#32 + _ = _
        rw [BitVec.add_assoc]
      · rw [if_neg e, List.countP_cons_of_neg (by simpa using e)]
  rw [hgen]
  congr 2
  exact countP_finRange_cast (numel1 M) fun k => (idx (ix2 k (0 : Fin 1))).toInt = (x.val : Int)

end Cert.Proof
-- ==== Proof.Tile.lean ====
/-
  One vector subcore's task of the histogram kernel, as a statement about values.

  The task of the subcore at grid position `L` owns the words `base L … base L + 387071` of the index array. It zeroes
  its 43008 counters, fetches its words in 84 chunks of 4608 through two buffers in turn, adds every group of sixteen
  words into the counters by a masked indexed addition of the group's duplicate counts, and writes the counters out to
  its row of the result. The invariant all the way: after `n` words the counter at bin `k` holds the number of the first
  `n` words that name bin `k` (`tally`).
-/
module

public import proofs.«01_k».proof.Defs
public import proofs.«01_k».proof.Proof.Count
public import Idealize.ShloMosaic.Lib.SparseCore.Quiescent
public import Idealize.ShloMosaic.Lib.SparseCore.Ops
public import Idealize.ShloMosaic.Lib.SparseCore.FromWhole
public import Idealize.ShloMosaic.Lib.StableHlo.Run
public import Idealize.ShloMosaic.Lib.Pipeline.Kit
public import Idealize.ShloMosaic.Lib.Transfers
public import Idealize.ShloMosaic.Lib.Tactic
public import proofs.«01_k».proof.Proof.Gen.KernelIdeal
public import proofs.«01_k».proof.Proof.Gen.KernelIdeal.Skeleton

@[expose] public section

noncomputable section

namespace Cert.Proof.Hist

open Cert.KernelIdeal Cert.KernelIdeal.Gen

open Idealize.ShloMosaic
open Idealize.ShloMosaic.ValueIdx Idealize.ShloMosaic.Routing
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers of a task -/

variable [FloatOps F]

/-- The index array, the result, the two chunk buffers and the counters, as a task addresses them. -/
local notation "iW" => (Memref.whole Cert.KernelIdeal.main_arg0_scv : Memref Cert.KernelIdeal.sig Kind.scVector Space.hbm Cert.KernelIdeal.S12386304 EltTy.i32)
local notation "oW" => (Memref.whole Cert.KernelIdeal.main_v0_scv : Memref Cert.KernelIdeal.sig Kind.scVector Space.hbm Cert.KernelIdeal.S32x43008 EltTy.i32)
local notation "b0W" => (Memref.whole Cert.KernelIdeal.cc0_scratch0 : Memref Cert.KernelIdeal.sig Kind.scVector Space.vmem Cert.KernelIdeal.S4608 EltTy.i32)
local notation "b1W" => (Memref.whole Cert.KernelIdeal.cc0_scratch1 : Memref Cert.KernelIdeal.sig Kind.scVector Space.vmem Cert.KernelIdeal.S4608 EltTy.i32)
local notation "hW" => (Memref.whole Cert.KernelIdeal.cc0_scratch2 : Memref Cert.KernelIdeal.sig Kind.scVector Space.vmem Cert.KernelIdeal.S43008 EltTy.i32)

variable (d : Dev nD) (L : grid0.Coords)

abbrev cV : Fin τ.nSC := (L 0).castLE hcore0
abbrev jV : Fin τ.nSub := (L 1).castLE hsub0
/-- The thread that runs the task. -/
abbrev thr : Thread nD τ := V d (cV L) (jV L)

/-- The first of the task's words in the index array. -/
def base (L : grid0.Coords) : ℕ := 774144 * (L 1).val + 387072 * (L 0).val

theorem base_le : base L + 387072 ≤ 12386304 := by
  have h0 : (L 0).val < 2 := (L 0).isLt
  have h1 : (L 1).val < 16 := (L 1).isLt
  unfold base; omega

/-- The `n`-th word of the index array (zero past its end). -/
def word (x : IVec S12386304 32) (n : ℕ) : BitVec 32 := if h : n < 12386304 then x (ix1 ⟨n, h⟩) else 0#32

/-- The `n`-th word of the task. -/
def words (x : IVec S12386304 32) (L : grid0.Coords) (n : ℕ) : BitVec 32 := word x (base L + n)

/-! ## Reading and writing sixteen lanes -/

theorem trips1 : k0_t1_loop.trips = 2688 := by decide
theorem trips2 : k0_t2_loop.trips = 42 := by decide
theorem trips3 : k0_t3_loop.trips = 288 := by decide
theorem trips4 : k0_t4_loop.trips = 288 := by decide

/-- The counters held whole, as the indexed addition addresses them. -/
theorem pts_hW (h : IVec S43008 32) :
    (((hW).access (.whole S43008)).loc (thr d L) ↦[((hW).access (.whole S43008)).set]{fullShare} h : sProp 𝕄)
      = ((hW).view.loc (thr d L) ↦{fullShare} h) := by
  rw [show ((hW).access (.whole S43008)).set = Finset.univ from Memref.set_access_whole (cc0_scratch2 : Ref sig .scVector)]

/-- Sixteen words stored at an offset of the counters replace them there. -/
theorem store16 (h : IVec S43008 32) (w : IVec S16 32) (off : Fin 1 → ℕ) (inb : ∀ a, off a + S16.size a ≤ S43008.size a) :
    (hW).view.writes (Elt F) h [⟨Rect.unit (s := S43008) off S16.size inb, w⟩] = updateSlice (s := S43008) (u := S16) h w off ⟨rfl, inb⟩ :=
  View.write_whole_slice_unit (Val := Elt F) cc0_scratch2 off S16.size inb h w

/-- Sixteen words loaded at an offset of a chunk buffer. -/
theorem load16_b0 (b : IVec S4608 32) (off : Fin 1 → ℕ) (inb : ∀ a, off a + S16.size a ≤ S4608.size a) (l : Fin 16)
    (hl : off 0 + l.val < 4608) :
    (b0W).view.readAt (Elt F) (Rect.unit (s := S4608) off S16.size inb).toLoadRect b (ix1 l) = b (ix1 ⟨off 0 + l.val, hl⟩) := by
  show b _ = _
  refine congrArg b ?_
  funext a
  obtain rfl : a = (0 : Fin 1) := Subsingleton.elim (α := Fin 1) _ _
  apply Fin.ext
  show off 0 + 1 * l.val = off 0 + l.val
  omega

theorem load16_b1 (b : IVec S4608 32) (off : Fin 1 → ℕ) (inb : ∀ a, off a + S16.size a ≤ S4608.size a) (l : Fin 16)
    (hl : off 0 + l.val < 4608) :
    (b1W).view.readAt (Elt F) (Rect.unit (s := S4608) off S16.size inb).toLoadRect b (ix1 l) = b (ix1 ⟨off 0 + l.val, hl⟩) := by
  show b _ = _
  refine congrArg b ?_
  funext a
  obtain rfl : a = (0 : Fin 1) := Subsingleton.elim (α := Fin 1) _ _
  apply Fin.ext
  show off 0 + 1 * l.val = off 0 + l.val
  omega

/-- One group's masked indexed addition: `v` holds the `n`-th word and the fifteen after it, and the counters count one
    group more. -/
theorem group_counts (wd : ℕ → BitVec 32) (n : ℕ) (h : IVec S43008 32) (hh : ∀ j, h j = tally wd n (j 0).val)
    (v : IVec S16 32) (hv : ∀ l : Fin 16, v (ix1 l) = wd (n + l.val)) (hidx) (j : S43008.Idx) :
    storeIdx (F := F) (e := .i32) (s := S43008) h ![v] (scanCount (broadcast S16 1#1) v).2 (scanCount (broadcast S16 1#1) v).1 true hidx j
      = tally wd (n + 16) (j 0).val := by
  rw [tally_add, ← hh j]
  refine (storeIdx_scanCount (F := F) (N := 43008) (n := 16) h v hidx j).trans ?_
  congr 2
  refine Finset.card_bij (fun l _ => l.val) ?_ ?_ ?_
  · intro l hl
    simp only [Finset.mem_filter, Finset.mem_range, Finset.mem_univ, true_and] at hl ⊢
    exact ⟨l.isLt, by rw [← hv l]; exact hl⟩
  · intro l _ l' _ e; exact Fin.ext e
  · intro i hi
    simp only [Finset.mem_filter, Finset.mem_range] at hi
    refine ⟨⟨i, hi.1⟩, ?_, rfl⟩
    simp only [Finset.mem_filter, Finset.mem_univ, true_and]
    rw [hv ⟨i, hi.1⟩]; exact hi.2

/-! ## The zeroing loop -/

/-- Before trip `k` the counters below `16 * k` are zero. -/
def zeroInv (k : ℕ) (_ : Unit) : sProp 𝕄 :=
  iprop(∃ h : IVec S43008 32, ⌜∀ j, (j 0).val < 16 * k → h j = 0#32⌝ ∗ ((hW).view.loc (thr d L) ↦{fullShare} h))

theorem zero_trip (k : Fin k0_t1_loop.trips) (acc : Unit) :
    (zeroInv d L k.val acc : sProp 𝕄)
      ⊢ wp frame (wpE (defs₀ (F := F)) 𝒱₀ (thr d L) none) Set.univ
          (k0_t1_body L iW (Memref.isWhole_whole _) oW (Memref.isWhole_whole _) b0W (Memref.isWhole_whole _)
            b1W (Memref.isWhole_whole _) hW (Memref.isWhole_whole _) cc0_scratch3 cc0_scratch4 cc0_scoped0 k acc)
          (zeroInv d L (k.val + 1)) := by
  unfold zeroInv k0_t1_body
  iintro ⟨%h, %hh, H⟩
  sl_exec
  sl_step
  iexists _
  isplitr
  rotate_left
  · iexact H
  · ipureintro
    intro j hj
    rw [store16]
    unfold updateSlice
    split
    · rfl
    · next hout =>
      refine hh j ?_
      by_contra hge
      refine hout fun a => ?_
      obtain rfl : a = 0 := Subsingleton.elim _ _
      have h0 : k0_off1 k 0 = 16 * k.val := by rw [k0_off1_eq]; rfl
      show k0_off1 k 0 ≤ (j 0).val ∧ (j 0).val < k0_off1 k 0 + 16
      rw [h0]
      show 16 * k.val ≤ (j 0).val ∧ (j 0).val < 16 * k.val + 16
      omega

/-! ## The counting loops -/

/-- Before group `k` of a chunk whose first word is the task's `n`-th: the chunk's buffer holds it, and the counters
    have counted the words before the group. -/
def scanInv0 (wd : ℕ → BitVec 32) (n : ℕ) (b : IVec S4608 32) (k : ℕ) (_ : Unit) : sProp 𝕄 :=
  iprop(((b0W).view.loc (thr d L) ↦{fullShare} b)
    ∗ ∃ h : IVec S43008 32, ⌜∀ j, h j = tally wd (n + 16 * k) (j 0).val⌝ ∗ ((hW).view.loc (thr d L) ↦{fullShare} h))

theorem scan_trip0 (wd : ℕ → BitVec 32) (hwd : ∀ n, (wd n).toNat < 43008) (n : ℕ) (b : IVec S4608 32)
    (hb : ∀ j, b j = wd (n + (j 0).val)) (k : Fin k0_t3_loop.trips) (acc : Unit) :
    (scanInv0 d L wd n b k.val acc : sProp 𝕄)
      ⊢ wp frame (wpE (defs₀ (F := F)) 𝒱₀ (thr d L) none) Set.univ
          (k0_t3_body L iW (Memref.isWhole_whole _) oW (Memref.isWhole_whole _) b0W (Memref.isWhole_whole _)
            b1W (Memref.isWhole_whole _) hW (Memref.isWhole_whole _) cc0_scratch3 cc0_scratch4 cc0_scoped0 k acc)
          (scanInv0 d L wd n b (k.val + 1)) := by
  unfold scanInv0 k0_t3_body
  iintro ⟨Hb, %h, %hh, H⟩
  sl_exec
  have hv : ∀ l : Fin 16, (b0W).view.readAt (Elt F) (Rect.unit (s := S4608) (k0_off4 k) S16.size (k0_off4_inb k)).toLoadRect b (ix1 l)
      = wd (n + 16 * k.val + l.val) := by
    intro l
    have hk : k.val < 288 := lt_of_lt_of_eq k.isLt trips3
    have h0 : k0_off4 k 0 = 16 * k.val := by rw [k0_off4_eq]; rfl
    rw [load16_b0 b _ _ l (by have := l.isLt; omega), hb]
    refine congrArg wd ?_
    show n + (k0_off4 k 0 + l.val) = _
    omega
  have hchk : k0_chk1 ((b0W).view.readAt (Elt F) (Rect.unit (s := S4608) (k0_off4 k) S16.size (k0_off4_inb k)).toLoadRect b) := by
    intro a x
    obtain rfl : a = 0 := Subsingleton.elim _ _
    obtain ⟨l, rfl⟩ : ∃ l : Fin 16, x = ix1 l := ⟨x 0, eq_ix1 x⟩
    show BitVec.toNat (View.readAt (Elt F) (b0W).view (Rect.unit (s := S4608) (k0_off4 k) S16.size (k0_off4_inb k)).toLoadRect b (ix1 l)) < 43008
    rw [hv]; exact hwd _
  rw [wp_assume_of _ _ _ _ hchk]
  ihave H' := (Entails.of_eq (pts_hW (F := F) d L _).symm) $$ H
  iapply (SparseCore.wp_vectorStoreIdx 𝒱₀ (thr d L) none Set.univ (base := hW)) $$ H'; iintro H'
  ihave H := (Entails.of_eq (pts_hW (F := F) d L _)) $$ H'
  sl_exec
  sl_step
  isplitl [Hb]; · iexact Hb
  iexists _
  isplitr
  rotate_left
  · iexact H
  · ipureintro
    intro j
    refine (congrFun (Memref.write_access_whole_univ (Elt F) cc0_scratch2 h _) j).trans ?_
    rw [Memref.read_access_whole]
    exact group_counts wd (n + 16 * k.val) h hh _ hv _ j

/-- The same for a chunk in the other buffer. -/
def scanInv1 (wd : ℕ → BitVec 32) (n : ℕ) (b : IVec S4608 32) (k : ℕ) (_ : Unit) : sProp 𝕄 :=
  iprop(((b1W).view.loc (thr d L) ↦{fullShare} b)
    ∗ ∃ h : IVec S43008 32, ⌜∀ j, h j = tally wd (n + 16 * k) (j 0).val⌝ ∗ ((hW).view.loc (thr d L) ↦{fullShare} h))

theorem scan_trip1 (wd : ℕ → BitVec 32) (hwd : ∀ n, (wd n).toNat < 43008) (n : ℕ) (b : IVec S4608 32)
    (hb : ∀ j, b j = wd (n + (j 0).val)) (k : Fin k0_t4_loop.trips) (acc : Unit) :
    (scanInv1 d L wd n b k.val acc : sProp 𝕄)
      ⊢ wp frame (wpE (defs₀ (F := F)) 𝒱₀ (thr d L) none) Set.univ
          (k0_t4_body L iW (Memref.isWhole_whole _) oW (Memref.isWhole_whole _) b0W (Memref.isWhole_whole _)
            b1W (Memref.isWhole_whole _) hW (Memref.isWhole_whole _) cc0_scratch3 cc0_scratch4 cc0_scoped0 k acc)
          (scanInv1 d L wd n b (k.val + 1)) := by
  unfold scanInv1 k0_t4_body
  iintro ⟨Hb, %h, %hh, H⟩
  sl_exec
  have hv : ∀ l : Fin 16, (b1W).view.readAt (Elt F) (Rect.unit (s := S4608) (k0_off6 k) S16.size (k0_off6_inb k)).toLoadRect b (ix1 l)
      = wd (n + 16 * k.val + l.val) := by
    intro l
    have hk : k.val < 288 := lt_of_lt_of_eq k.isLt trips4
    have h0 : k0_off6 k 0 = 16 * k.val := by rw [k0_off6_eq]; rfl
    rw [load16_b1 b _ _ l (by have := l.isLt; omega), hb]
    refine congrArg wd ?_
    show n + (k0_off6 k 0 + l.val) = _
    omega
  have hchk : k0_chk2 ((b1W).view.readAt (Elt F) (Rect.unit (s := S4608) (k0_off6 k) S16.size (k0_off6_inb k)).toLoadRect b) := by
    intro a x
    obtain rfl : a = 0 := Subsingleton.elim _ _
    obtain ⟨l, rfl⟩ : ∃ l : Fin 16, x = ix1 l := ⟨x 0, eq_ix1 x⟩
    show BitVec.toNat (View.readAt (Elt F) (b1W).view (Rect.unit (s := S4608) (k0_off6 k) S16.size (k0_off6_inb k)).toLoadRect b (ix1 l)) < 43008
    rw [hv]; exact hwd _
  rw [wp_assume_of _ _ _ _ hchk]
  ihave H' := (Entails.of_eq (pts_hW (F := F) d L _).symm) $$ H
  iapply (SparseCore.wp_vectorStoreIdx 𝒱₀ (thr d L) none Set.univ (base := hW)) $$ H'; iintro H'
  ihave H := (Entails.of_eq (pts_hW (F := F) d L _)) $$ H'
  sl_exec
  sl_step
  isplitl [Hb]; · iexact Hb
  iexists _
  isplitr
  rotate_left
  · iexact H
  · ipureintro
    intro j
    refine (congrFun (Memref.write_access_whole_univ (Elt F) cc0_scratch2 h _) j).trans ?_
    rw [Memref.read_access_whole]
    exact group_counts wd (n + 16 * k.val) h hh _ hv _ j

/-! ## The chunk transfers -/

/-- The transfers' counters, in the machine's algebra. -/
abbrev EC : UEmb Counters 𝕄 := countersEmb

/-- What the transfer of a chunk into a buffer credits its semaphore with. -/
abbrev NC : ℕ := (b0W).view.dmaCredit

theorem NC_pos : 0 < NC := View.dmaCredit_pos _ (by decide)

/-- What the fetch of the chunk that starts at the task's `n`-th word delivers: the chunk, and the share of the index
    array it read by. -/
def chunk0 (fI : IVec S12386304 32) (q : PosShare TreeShare) (n : ℕ) : sProp 𝕄 :=
  iprop((∃ b : IVec S4608 32, ⌜∀ j, b j = words fI L (n + (j 0).val)⌝ ∗ ((b0W).view.loc (thr d L) ↦{fullShare} b))
    ∗ ((iW).view.loc (thr d L) ↦{q} fI))
def chunk1 (fI : IVec S12386304 32) (q : PosShare TreeShare) (n : ℕ) : sProp 𝕄 :=
  iprop((∃ b : IVec S4608 32, ⌜∀ j, b j = words fI L (n + (j 0).val)⌝ ∗ ((b1W).view.loc (thr d L) ↦{fullShare} b))
    ∗ ((iW).view.loc (thr d L) ↦{q} fI))

/-- A chunk read at an offset of the index array is the task's words there. -/
theorem read_chunk (fI : IVec S12386304 32) (off : Fin 1 → ℕ) (inb : ∀ a, off a + S4608.size a ≤ S12386304.size a) (n : ℕ)
    (hoff : off 0 = base L + n) (j : S4608.Idx) :
    (ReadAs.same : ReadAs (Elt F) S4608 .i32 S4608 .i32).apply
      (((iW).slice (Rect.unit (s := S12386304) off S4608.size inb) (fun _ => rfl)).view.read (Elt F) fI) j = words fI L (n + (j 0).val) := by
  have h0 := inb 0
  have hj : (j 0).val < 4608 := (j 0).isLt
  have hlt : base L + (n + (j 0).val) < 12386304 := by
    have : off 0 + 4608 ≤ 12386304 := h0
    omega
  unfold words word
  rw [dif_pos hlt]
  show fI _ = fI _
  refine congrArg fI ?_
  funext a
  obtain rfl : a = (0 : Fin 1) := Subsingleton.elim (α := Fin 1) _ _
  apply Fin.ext
  show off 0 + 1 * (j 0).val = base L + (n + (j 0).val)
  omega

/-- The issue of a chunk's fetch into buffer 0. -/
theorem issue0 (fI : IVec S12386304 32) (q : PosShare TreeShare) (n : ℕ) (off : Fin 1 → ℕ)
    (inb : ∀ a, off a + S4608.size a ≤ S12386304.size a) (hoff : off 0 = base L + n) (fd : IVec S4608 32)
    {h₁ h₂ h₃} {k : PUnit → Prog (TpuEff nD τ sig (Elt F) Λ₀ (thr d L).2) Unit} {Q : Unit → sProp 𝕄} :
    iprop(((iW).view.loc (thr d L) ↦{q} fI) ∗ ((b0W).view.loc (thr d L) ↦{fullShare} fd) ∗ semVal (thr d L, SemLoc.dma cc0_scratch3.sem) 0)
      ⊢ iprop((Transfers.Flight EC (thr d L) (SemLoc.dma cc0_scratch3.sem) (none : HIx 1) NC (chunk0 d L fI q n)
            -∗ wp frame (wpE (defs₀ (F := F)) 𝒱₀ (thr d L) none) Set.univ (k ⟨⟩) Q)
          -∗ wp frame (wpE (defs₀ (F := F)) 𝒱₀ (thr d L) none) Set.univ
              (.op (.enqueueDma ((iW).slice (Rect.unit (s := S12386304) off S4608.size inb) (fun _ => rfl)) (.here b0W) (SemLoc.dma cc0_scratch3.sem) h₁ h₂ h₃) k) Q) := by
  iintro ⟨HI, Hb, Hs⟩ Hk
  iapply (Transfers.wp_dmaFromWhole EC 𝒱₀ (thr d L) none (none : HIx 1) NC rfl NC_pos (Finset.subset_univ _)
    (dst := b0W) (src := (iW).slice (Rect.unit (s := S12386304) off S4608.size inb) (fun _ => rfl)) (fs := fI) (fd := fd) (q := q)) $$ [HI Hb Hs]
  · iframe HI Hb Hs
  iintro Hfl
  iapply Hk
  iapply (Transfers.Flight_mono EC (thr d L) (D' := chunk0 d L fI q n) ?_) $$ Hfl
  unfold chunk0
  iintro ⟨Hb, HI⟩
  isplitl [Hb]
  · iexists _
    isplitr
    rotate_left
    · iexact Hb
    · ipureintro
      intro j
      refine (congrFun (View.write_whole_univ (Val := Elt F) cc0_scratch0 fd _) j).trans ?_
      exact read_chunk L fI off inb n hoff j
  · iexact HI

/-- The issue of a chunk's fetch into buffer 1. -/
theorem issue1 (fI : IVec S12386304 32) (q : PosShare TreeShare) (n : ℕ) (off : Fin 1 → ℕ)
    (inb : ∀ a, off a + S4608.size a ≤ S12386304.size a) (hoff : off 0 = base L + n) (fd : IVec S4608 32)
    {h₁ h₂ h₃} {k : PUnit → Prog (TpuEff nD τ sig (Elt F) Λ₀ (thr d L).2) Unit} {Q : Unit → sProp 𝕄} :
    iprop(((iW).view.loc (thr d L) ↦{q} fI) ∗ ((b1W).view.loc (thr d L) ↦{fullShare} fd) ∗ semVal (thr d L, SemLoc.dma cc0_scratch4.sem) 0)
      ⊢ iprop((Transfers.Flight EC (thr d L) (SemLoc.dma cc0_scratch4.sem) (none : HIx 1) NC (chunk1 d L fI q n)
            -∗ wp frame (wpE (defs₀ (F := F)) 𝒱₀ (thr d L) none) Set.univ (k ⟨⟩) Q)
          -∗ wp frame (wpE (defs₀ (F := F)) 𝒱₀ (thr d L) none) Set.univ
              (.op (.enqueueDma ((iW).slice (Rect.unit (s := S12386304) off S4608.size inb) (fun _ => rfl)) (.here b1W) (SemLoc.dma cc0_scratch4.sem) h₁ h₂ h₃) k) Q) := by
  iintro ⟨HI, Hb, Hs⟩ Hk
  iapply (Transfers.wp_dmaFromWhole EC 𝒱₀ (thr d L) none (none : HIx 1) NC rfl NC_pos (Finset.subset_univ _)
    (dst := b1W) (src := (iW).slice (Rect.unit (s := S12386304) off S4608.size inb) (fun _ => rfl)) (fs := fI) (fd := fd) (q := q)) $$ [HI Hb Hs]
  · iframe HI Hb Hs
  iintro Hfl
  iapply Hk
  iapply (Transfers.Flight_mono EC (thr d L) (D' := chunk1 d L fI q n) ?_) $$ Hfl
  unfold chunk1
  iintro ⟨Hb, HI⟩
  isplitl [Hb]
  · iexists _
    isplitr
    rotate_left
    · iexact Hb
    · ipureintro
      intro j
      refine (congrFun (View.write_whole_univ (Val := Elt F) cc0_scratch1 fd _) j).trans ?_
      exact read_chunk L fI off inb n hoff j
  · iexact HI

/-! ## The loop over pairs of chunks -/

theorem cond1_iff (k : Fin k0_t2_loop.trips) : k0_cond1 k = 1#1 ↔ k.val + 1 < 42 := by
  revert k; decide

/-- Before pair `k`: the fetch of the pair's first chunk in flight or, past the last pair, its buffer, its share of the
    index array and its semaphore back. -/
def slot0 (fI : IVec S12386304 32) (q : PosShare TreeShare) (k : ℕ) : sProp 𝕄 :=
  if k < 42 then Transfers.Flight EC (thr d L) (SemLoc.dma cc0_scratch3.sem) (none : HIx 1) NC (chunk0 d L fI q (9216 * k))
  else iprop((∃ b : IVec S4608 32, (b0W).view.loc (thr d L) ↦{fullShare} b) ∗ ((iW).view.loc (thr d L) ↦{q} fI)
    ∗ semVal (thr d L, SemLoc.dma cc0_scratch3.sem) 0)

theorem slot0_lt (fI : IVec S12386304 32) (q : PosShare TreeShare) {k : ℕ} (hk : k < 42) :
    (slot0 d L fI q k : sProp 𝕄)
      = Transfers.Flight EC (thr d L) (SemLoc.dma cc0_scratch3.sem) (none : HIx 1) NC (chunk0 d L fI q (9216 * k)) := by
  unfold slot0; exact if_pos hk

theorem slot0_ge (fI : IVec S12386304 32) (q : PosShare TreeShare) {k : ℕ} (hk : ¬ k < 42) :
    (slot0 d L fI q k : sProp 𝕄)
      = iprop((∃ b : IVec S4608 32, (b0W).view.loc (thr d L) ↦{fullShare} b) ∗ ((iW).view.loc (thr d L) ↦{q} fI)
        ∗ semVal (thr d L, SemLoc.dma cc0_scratch3.sem) 0) := by
  unfold slot0; exact if_neg hk

/-- Before pair `k` the counters have counted the words of the pairs before it. -/
def pairInv (fI : IVec S12386304 32) (q₀ q₁ : PosShare TreeShare) (O : CellTallies nD τ sig (HIx 1)) (W : Waits sig (HIx 1))
    (k : ℕ) (_ : Unit) : sProp 𝕄 :=
  iprop(Transfers.MayWaits (thr d L) (none : HIx 1) O
    ∗ slot0 d L fI q₀ k
    ∗ (∃ b : IVec S4608 32, (b1W).view.loc (thr d L) ↦{fullShare} b)
    ∗ ((iW).view.loc (thr d L) ↦{q₁} fI)
    ∗ semVal (thr d L, SemLoc.dma cc0_scratch4.sem) 0
    ∗ (∃ h : IVec S43008 32, ⌜∀ j, h j = tally (words fI L) (9216 * k) (j 0).val⌝ ∗ ((hW).view.loc (thr d L) ↦{fullShare} h))
    ∗ ∃ W', ⌜∀ p ∈ W', p ∈ W ∨ p.2 = none⌝ ∗ owes (thr d L) O W')

theorem waits_insert {W W' : Waits sig (HIx 1)} (hsub : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact .inr rfl
  · exact hsub p hp

theorem NC_b1 : (b1W).view.dmaCredit = NC := by
  unfold NC View.dmaCredit
  rfl

/-- The second half of a pair: its second chunk arrives and is counted. -/
theorem pair_tail (fI : IVec S12386304 32) (hfI : ∀ n, (words fI L n).toNat < 43008) (q₀ q₁ : PosShare TreeShare)
    (O : CellTallies nD τ sig (HIx 1)) (W : Waits sig (HIx 1)) (k : Fin k0_t2_loop.trips) (W' : Waits sig (HIx 1))
    (hW' : ∀ p ∈ W', p ∈ W ∨ p.2 = none) (h : IVec S43008 32)
    (hh : ∀ j, h j = tally (words fI L) (9216 * k.val + 4608) (j 0).val)
    {r h₀ h₁ h₂} :
    iprop(Transfers.MayWaits (thr d L) (none : HIx 1) O
        ∗ slot0 d L fI q₀ (k.val + 1)
        ∗ Transfers.Flight EC (thr d L) (SemLoc.dma cc0_scratch4.sem) (none : HIx 1) NC (chunk1 d L fI q₁ (9216 * k.val + 4608))
        ∗ ((hW).view.loc (thr d L) ↦{fullShare} h)
        ∗ owes (thr d L) O W')
      ⊢ wp frame (wpE (defs₀ (F := F)) 𝒱₀ (thr d L) none) Set.univ
          (Prog.op (TpuEff.waitDma2 (SemArray.sem cc0_scratch4) ((iW).slice (Rect.unit (s := S12386304) ![0] S4608.size r) h₀) b1W h₁ h₂)
            fun _ => (k0_t4_loop.for k0_t4_ok PUnit.unit
              (k0_t4_body L iW (Memref.isWhole_whole _) oW (Memref.isWhole_whole _) b0W (Memref.isWhole_whole _)
                b1W (Memref.isWhole_whole _) hW (Memref.isWhole_whole _) cc0_scratch3 cc0_scratch4 cc0_scoped0)) >>= fun _ => Prog.ret PUnit.unit)
          (pairInv d L fI q₀ q₁ O W (k.val + 1)) := by
  unfold pairInv
  iintro ⟨#Hmw, H0, H1, Hh, HO⟩
  iapply (Transfers.wp_waitLocalO EC 𝒱₀ (thr d L) none (none : HIx 1) (N := NC) NC_b1) $$ [H1 HO]
  · isplitl [H1]; · iexact H1
    isplitl [HO]; · iexact HO
    iapply (Transfers.MayWaits.elim (SemLoc.dma cc0_scratch4.sem)) $$ Hmw
  iintro ⟨H1, Hs1, HO⟩
  unfold chunk1
  icases H1 with ⟨⟨%b1, %hb1, Hb1⟩, HI1⟩
  sl_for (scanInv1 d L (words fI L) (9216 * k.val + 4608) b1) $$ [Hb1 Hh]
  case region =>
    exact scan_trip1 d L (words fI L) hfI (9216 * k.val + 4608) b1 (fun j => by rw [hb1 j])
  · unfold scanInv1
    isplitl [Hb1]; · iexact Hb1
    iexists h
    isplitr
    · ipureintro; exact hh
    · iexact Hh
  iintro %_ HI
  unfold scanInv1
  icases HI with ⟨Hb1, %h', %hh', Hh⟩
  have hn : 9216 * k.val + 4608 + 16 * Scf.trips k0_t4_loop.lb k0_t4_loop.ub k0_t4_loop.st = 9216 * (k.val + 1) := by
    have := trips4
    unfold Scf.Loop.trips at this
    rw [this]; omega
  rw [hn] at hh'
  sl_exec
  sl_step
  isplitr; · iexact Hmw
  isplitl [H0]; · iexact H0
  isplitl [Hb1]; · iexists b1; iexact Hb1
  isplitl [HI1]; · iexact HI1
  isplitl [Hs1]; · iexact Hs1
  isplitl [Hh]
  · iexists h'
    isplitr
    · ipureintro; exact hh'
    · iexact Hh
  iexists _
  isplitr
  rotate_left
  · iexact HO
  · ipureintro; exact waits_insert hW' _

theorem pair_trip (fI : IVec S12386304 32) (hfI : ∀ n, (words fI L n).toNat < 43008) (q₀ q₁ : PosShare TreeShare)
    (O : CellTallies nD τ sig (HIx 1)) (W : Waits sig (HIx 1)) (k : Fin k0_t2_loop.trips) (acc : Unit) :
    (pairInv d L fI q₀ q₁ O W k.val acc : sProp 𝕄)
      ⊢ wp frame (wpE (defs₀ (F := F)) 𝒱₀ (thr d L) none) Set.univ
          (k0_t2_body L iW (Memref.isWhole_whole _) oW (Memref.isWhole_whole _) b0W (Memref.isWhole_whole _)
            b1W (Memref.isWhole_whole _) hW (Memref.isWhole_whole _) cc0_scratch3 cc0_scratch4 cc0_scoped0 k acc)
          (pairInv d L fI q₀ q₁ O W (k.val + 1)) := by
  have hk : k.val < 42 := lt_of_lt_of_eq k.isLt trips2
  unfold pairInv k0_t2_body
  simp only [Prog.lift, Prog.bind_op, Prog.bind_ret, Prog.pure_eq_ret]
  iintro ⟨#Hmw, H0, ⟨%b1, Hb1⟩, HI1, Hs1, ⟨%h, %hh, Hh⟩, %W', %hW', HO⟩
  ihave H0 := (Entails.of_eq (slot0_lt (F := F) d L fI q₀ hk)) $$ H0
  -- the second chunk's fetch starts
  iapply (issue1 d L fI q₁ (9216 * k.val + 4608) (k0_off3 L k) (k0_off3_inb L k)
    (by rw [k0_off3_eq]; show _ + 4608 = _; unfold base; omega) b1) $$ [HI1 Hb1 Hs1]
  · iframe HI1 Hb1 Hs1
  iintro H1
  -- the first chunk has arrived
  iapply (Transfers.wp_waitLocalO EC 𝒱₀ (thr d L) none (none : HIx 1) (N := NC) rfl) $$ [H0 HO]
  · isplitl [H0]; · iexact H0
    isplitl [HO]; · iexact HO
    iapply (Transfers.MayWaits.elim (SemLoc.dma cc0_scratch3.sem)) $$ Hmw
  iintro ⟨H0, Hs0, HO⟩
  unfold chunk0
  icases H0 with ⟨⟨%b0, %hb0, Hb0⟩, HI0⟩
  -- its words are counted
  sl_for (scanInv0 d L (words fI L) (9216 * k.val) b0) $$ [Hb0 Hh]
  case region =>
    exact scan_trip0 d L (words fI L) hfI (9216 * k.val) b0 hb0
  · unfold scanInv0
    isplitl [Hb0]; · iexact Hb0
    iexists h
    isplitr
    · ipureintro; exact hh
    · iexact Hh
  iintro %_ HI
  unfold scanInv0
  icases HI with ⟨Hb0, %h', %hh', Hh⟩
  have hn : 9216 * k.val + 16 * Scf.trips k0_t3_loop.lb k0_t3_loop.ub k0_t3_loop.st = 9216 * k.val + 4608 := by
    have := trips3
    unfold Scf.Loop.trips at this
    rw [this]
  rw [hn] at hh'
  unfold pair_trip.sl.prog.cont_1
  simp only [Prog.lift, Prog.bind_op, Prog.bind_ret, Prog.pure_eq_ret]
  have hnext : 9216 * (k.val + 1) = 9216 * k.val + 4608 + 4608 := by omega
  have hW2 := waits_insert hW' (SemLoc.dma cc0_scratch3.sem)
  by_cases hc : k0_cond1 k = 1#1
  · -- the next pair's first chunk starts
    have hlt : k.val + 1 < 42 := (cond1_iff k).mp hc
    rw [dif_pos hc]
    iapply (issue0 d L fI q₀ (9216 * (k.val + 1)) (k0_off5 L k) (k0_off5_inb L k hc)
      (by rw [k0_off5_eq]; show _ + 9216 = _; unfold base; omega) b0) $$ [HI0 Hb0 Hs0]
    · iframe HI0 Hb0 Hs0
    iintro H0
    iapply (pair_tail d L fI hfI q₀ q₁ O W k _ hW2 h' hh')
    isplitr; · iexact Hmw
    isplitl [H0]
    · rw [slot0_lt d L fI q₀ hlt]; iexact H0
    isplitl [H1]; · iexact H1
    isplitl [Hh]; · iexact Hh
    iexact HO
  · have hge : ¬ k.val + 1 < 42 := fun h => hc ((cond1_iff k).mpr h)
    rw [dif_neg hc]
    iapply (pair_tail d L fI hfI q₀ q₁ O W k _ hW2 h' hh')
    isplitr; · iexact Hmw
    isplitl [HI0 Hb0 Hs0]
    · rw [slot0_ge d L fI q₀ hge]
      isplitl [Hb0]; · iexists b0; iexact Hb0
      isplitl [HI0]; · iexact HI0
      iexact Hs0
    isplitl [H1]; · iexact H1
    isplitl [Hh]; · iexact Hh
    iexact HO

end Cert.Proof.Hist

end
-- ==== Proof.Task.lean ====
/-
  The whole of one vector subcore's task: its counters zeroed, its words counted, its row of the result written. Started
  with two shares of the index array and its row of the result, the task ends with the shares back and the row holding
  the number of its words that name each bin.
-/
module

public import proofs.«01_k».proof.Proof.Tile
public import Idealize.ShloMosaic.Lib.ValueLayout

@[expose] public section

noncomputable section

namespace Cert.Proof.Hist

open Cert.KernelIdeal Cert.KernelIdeal.Gen

open Idealize.ShloMosaic
open Idealize.ShloMosaic.ValueIdx Idealize.ShloMosaic.Routing
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iW" => (Memref.whole Cert.KernelIdeal.main_arg0_scv : Memref Cert.KernelIdeal.sig Kind.scVector Space.hbm Cert.KernelIdeal.S12386304 EltTy.i32)
local notation "oW" => (Memref.whole Cert.KernelIdeal.main_v0_scv : Memref Cert.KernelIdeal.sig Kind.scVector Space.hbm Cert.KernelIdeal.S32x43008 EltTy.i32)
local notation "b0W" => (Memref.whole Cert.KernelIdeal.cc0_scratch0 : Memref Cert.KernelIdeal.sig Kind.scVector Space.vmem Cert.KernelIdeal.S4608 EltTy.i32)
local notation "b1W" => (Memref.whole Cert.KernelIdeal.cc0_scratch1 : Memref Cert.KernelIdeal.sig Kind.scVector Space.vmem Cert.KernelIdeal.S4608 EltTy.i32)
local notation "hW" => (Memref.whole Cert.KernelIdeal.cc0_scratch2 : Memref Cert.KernelIdeal.sig Kind.scVector Space.vmem Cert.KernelIdeal.S43008 EltTy.i32)

variable (d : Dev nD) (L : grid0.Coords)

/-- The task's row of the result. -/
def wid (L : grid0.Coords) : ℕ := 2 * (L 1).val + (L 0).val

theorem wid_lt : wid L < 32 := by
  have h0 : (L 0).val < 2 := (L 0).isLt
  have h1 : (L 1).val < 16 := (L 1).isLt
  unfold wid; omega

theorem base_eq : base L = 387072 * wid L := by unfold base wid; omega

/-- The histograms: row `w` counts the words `387072 * w … 387072 * w + 387071` of the index array, bin by bin. -/
def histArr (x : IVec S12386304 32) : IVec S32x43008 32 :=
  fun j => tally (fun n => word x (387072 * (j 0).val + n)) 387072 (j 1).val

/-- The elements of row `w` of the result. -/
def outSet (w : ℕ) : Finset S32x43008.Idx := Finset.univ.filter fun j => (j 0).val = w

/-- The row as the task writes it. -/
abbrev oRow : Memref sig .scVector .hbm S43008 .i32 :=
  ((oW).slice (Rect.unit (s := S32x43008) (k0_off7 L) S1x43008.size (k0_off7_inb L)) (fun _ => rfl)).squeeze S43008 squeezes_S1x43008_S43008

theorem oRow_emb (x : Fin 43008) : (oRow L).view.emb (ix1 x) = (ix2 (⟨wid L, wid_lt L⟩ : Fin 32) x : S32x43008.Idx) := by
  have hr : Shape.reshapeEquiv (squeezes_S1x43008_S43008.numel_eq) (ix1 x : S43008.Idx) = (ix2 (0 : Fin 1) x : S1x43008.Idx) :=
    Shape.reshapeEquiv_eq_of_rowMajor _ (by
      rw [Shape.rowMajor_val_two, Shape.rowMajor_val_one]
      show 0 * 43008 + x.val = x.val
      omega)
  show (Rect.unit (s := S32x43008) (k0_off7 L) S1x43008.size (k0_off7_inb L)).emb (Shape.reshapeEquiv (squeezes_S1x43008_S43008.numel_eq) (ix1 x : S43008.Idx)) = _
  rw [hr]
  funext a
  apply Fin.ext
  have h7 := k0_off7_eq L
  have h70 : k0_off7 L 0 = wid L := by rw [h7]; rfl
  have h71 : k0_off7 L 1 = 0 := by rw [h7]; rfl
  fin_cases a
  · show k0_off7 L 0 + 1 * 0 = wid L
    omega
  · show k0_off7 L 1 + 1 * x.val = x.val
    omega

theorem oRow_emb0 (x : S43008.Idx) : ((oRow L).view.emb x 0).val = wid L := by
  obtain ⟨y, rfl⟩ : ∃ y : Fin 43008, x = (ix1 y : S43008.Idx) := ⟨x 0, eq_ix1 x⟩
  exact congrArg (fun i : S32x43008.Idx => (i 0).val) (oRow_emb L y)

theorem oRow_emb1 (x : S43008.Idx) : ((oRow L).view.emb x 1).val = (x 0).val := by
  obtain ⟨y, rfl⟩ : ∃ y : Fin 43008, x = (ix1 y : S43008.Idx) := ⟨x 0, eq_ix1 x⟩
  exact congrArg (fun i : S32x43008.Idx => (i 1).val) (oRow_emb L y)

theorem oRow_set : (oRow L).view.set = outSet (wid L) := by
  ext j
  unfold View.set outSet
  rw [Finset.mem_map, Finset.mem_filter]
  constructor
  · rintro ⟨x, -, rfl⟩
    exact ⟨Finset.mem_univ _, oRow_emb0 L x⟩
  · rintro ⟨-, hj⟩
    refine ⟨(ix1 (j 1) : S43008.Idx), Finset.mem_univ _, ?_⟩
    funext a
    apply Fin.ext
    match a with
    | ⟨0, _⟩ => exact (oRow_emb0 L _).trans hj.symm
    | ⟨1, _⟩ => exact oRow_emb1 L _

/-- What the write-out leaves on the task's row is the row of the histograms. -/
theorem row_written (fI : IVec S12386304 32) (fd : IVec S32x43008 32) (h : IVec S43008 32)
    (hh : ∀ j, h j = tally (words fI L) 387072 (j 0).val) :
    ∀ i ∈ (oRow L).view.set, (oRow L).view.write (Elt F) fd
      ((ReadAs.same : ReadAs (Elt F) S43008 .i32 S43008 .i32).apply ((hW).view.read (Elt F) h)) Finset.univ i = histArr fI i := by
  intro i hi
  obtain ⟨x, -, rfl⟩ := Finset.mem_map.mp hi
  rw [View.write_emb_of_mem _ _ (Finset.mem_univ _)]
  show h x = tally (fun n => word fI (387072 * ((oRow L).view.emb x 0).val + n)) 387072 ((oRow L).view.emb x 1).val
  rw [oRow_emb0, oRow_emb1, hh]
  unfold words
  rw [base_eq]

/-! ## The cells and the scratch buffers of the task's thread -/

abbrev cell3 : GSem nD τ sig := (thr d L, SemLoc.dma cc0_scratch3.sem)
abbrev cell4 : GSem nD τ sig := (thr d L, SemLoc.dma cc0_scratch4.sem)
abbrev cellR : GSem nD τ sig := (thr d L, SemLoc.dma cc0_scoped0.sem)

omit [FloatOps F] in
/-- The task's three semaphores are among its thread's own. -/
theorem ownSems0_V :
    (ownSems0 (thr d L) : sProp 𝕄)
      = iprop(semVal (cell3 d L) 0 ∗ semVal (cell4 d L) 0 ∗ semVal (cellR d L) 0
          ∗ bigSep ((((ownCells (thr d L)).erase (cell3 d L)).erase (cell4 d L)).erase (cellR d L)) fun g => semVal g 0) := by
  unfold SparseCore.Cfg.ownSems0
  rw [SparseCore.bigSep_erase' ((mem_ownCells (g := cell3 d L)).mpr ⟨rfl, by
      show (SemLoc.dma cc0_scratch3.sem : SemLoc sig).isScoped .scVector = true; decide⟩),
    SparseCore.bigSep_erase' (Finset.mem_erase.mpr ⟨by simp [cell3, cell4]; decide, (mem_ownCells (g := cell4 d L)).mpr ⟨rfl, by
      show (SemLoc.dma cc0_scratch4.sem : SemLoc sig).isScoped .scVector = true; decide⟩⟩),
    SparseCore.bigSep_erase' (Finset.mem_erase.mpr ⟨by simp [cell4, cellR]; decide, Finset.mem_erase.mpr ⟨by simp [cell3, cellR]; decide,
      (mem_ownCells (g := cellR d L)).mpr ⟨rfl, by show (SemLoc.dma cc0_scoped0.sem : SemLoc sig).isScoped .scVector = true; decide⟩⟩⟩)]

omit [FloatOps F] in
/-- The task's three scratch buffers are among its subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The task -/

/-- The index array and the result, as arrays of device `d`. -/
abbrev iLoc (d : Dev nD) : Loc nD τ sig := (SparseCore.T d).loc main_arg0
abbrev oLoc (d : Dev nD) : Loc nD τ sig := (SparseCore.T d).loc main_v0

omit [FloatOps F] in
theorem pts_oRow (f : IVec S32x43008 32) :
    ((oRow L).view.loc (thr d L) ↦[(oRow L).view.set]{fullShare} f : sProp 𝕄) = oLoc d ↦[outSet (wid L)]{fullShare} f := by
  rw [oRow_set]

theorem NR_pos : 0 < (oRow L).view.dmaCredit := View.dmaCredit_pos _ (by decide)

/-- The task from two shares of the index array and its row of the result to the shares back and the row counted. -/
theorem tile_body (hF : (K (F := F)).Facts) (fI : IVec S12386304 32) (hfI : ∀ n, (words fI L n).toNat < 43008)
    (q₀ q₁ : PosShare TreeShare) (fo : IVec S32x43008 32)
    (O : CellTallies nD τ sig (HIx 1)) (W : Waits sig (HIx 1)) (hO : ∀ g, O g none = 0) :
    iprop((levAts (K (F := F)).L (K (F := F)).lev : sProp 𝕄)
        ∗ ((iLoc d ↦{q₀} fI) ∗ (iLoc d ↦{q₁} fI) ∗ (oLoc d ↦[outSet (wid L)]{fullShare} fo))
        ∗ scopedBufs (thr d L) ∗ scopedSems0 (thr d L) ∗ owes (thr d L) O W)
      ⊢ wp frame (wpE (defs₀ (F := F)) 𝒱₀ (thr d L) none) Set.univ
          (cc0__hist_body L iW (Memref.isWhole_whole _) oW (Memref.isWhole_whole _) b0W (Memref.isWhole_whole _)
            b1W (Memref.isWhole_whole _) hW (Memref.isWhole_whole _) cc0_scratch3 cc0_scratch4 cc0_scoped0)
          fun _ => iprop(((iLoc d ↦{q₀} fI) ∗ (iLoc d ↦{q₁} fI) ∗ (oLoc d ↦[outSet (wid L)]{fullShare} histArr fI))
            ∗ scopedBufs (thr d L) ∗ scopedSems0 (thr d L)
            ∗ ∃ W', ⌜∀ p ∈ W', p ∈ W ∨ p.2 = none⌝ ∗ owes (thr d L) O W') := by
  simp only [cc0__hist_body_eq_skeleton]; unfold cc0__hist_body_skel
  rw [(K (F := F)).scopedBufs_V hF d (cV L) (jV L), SparseCore.Cfg.scopedSems0_V (Val := Elt F) d (cV L) (jV L), ownSems0_V, ownBufs_V]
  iintro ⟨#Hlv, ⟨HI0, HI1, Ho⟩, ⟨⟨%f0, Hb0⟩, ⟨%f1, Hb1⟩, ⟨%fh, Hh⟩, Hbufs⟩, ⟨Hs3, Hs4, HsR, Hsems⟩, HO⟩
  ihave #Hmw := ((K (F := F)).mayWaits_none (thr := thr d L) hO) $$ Hlv
  -- the counters are zeroed
  sl_for (zeroInv d L) $$ [Hh]
  case region =>
    exact zero_trip d L
  · unfold zeroInv
    iexists fh
    isplitr
    · ipureintro; intro j hj; exact absurd hj (Nat.not_lt_zero _)
    · iexact Hh
  iintro %_ HI
  unfold zeroInv
  icases HI with ⟨%h0, %hh0, Hh⟩
  have h0z : ∀ j, h0 j = 0#32 := fun j => hh0 j (by
    have ht : Scf.trips k0_t1_loop.lb k0_t1_loop.ub k0_t1_loop.st = 2688 := trips1
    have hj : (j 0).val < 43008 := (j 0).isLt
    rw [ht]; omega)
  unfold tile_body.sl.prog.cont_1
  simp only [Prog.lift, Prog.bind_op, Prog.bind_ret, Prog.pure_eq_ret]
  -- the first chunk's fetch starts
  iapply (issue0 d L fI q₀ (9216 * 0) (k0_off2 L) (k0_off2_inb L)
    (by rw [k0_off2_eq]; rfl) f0) $$ [HI0 Hb0 Hs3]
  · isplitl [HI0]; · iexact HI0
    isplitl [Hb0]; · iexact Hb0
    iexact Hs3
  iintro H0
  -- the pairs of chunks
  sl_for (pairInv d L fI q₀ q₁ O W) $$ [H0 Hb1 HI1 Hs4 Hh HO]
  case region =>
    exact pair_trip d L fI hfI q₀ q₁ O W
  · unfold pairInv
    isplitr; · iexact Hmw
    isplitl [H0]
    · rw [slot0_lt d L fI q₀ (show 0 < 42 by decide)]; iexact H0
    isplitl [Hb1]; · iexists f1; iexact Hb1
    isplitl [HI1]; · iexact HI1
    isplitl [Hs4]; · iexact Hs4
    isplitl [Hh]
    · iexists h0
      isplitr
      · ipureintro; intro j; rw [h0z j, Nat.mul_zero, tally_zero]
      · iexact Hh
    iexists W
    isplitr
    · ipureintro; exact fun p hp => .inl hp
    · iexact HO
  iintro %_ HI
  unfold pairInv
  have ht2 : Scf.trips k0_t2_loop.lb k0_t2_loop.ub k0_t2_loop.st = 42 := trips2
  rw [ht2, slot0_ge d L fI q₀ (show ¬ 42 < 42 by decide)]
  icases HI with ⟨-, ⟨⟨%b0, Hb0⟩, HI0, Hs3⟩, ⟨%b1, Hb1⟩, HI1, Hs4, ⟨%h, %hh, Hh⟩, %W₁, %hW₁, HO⟩
  unfold tile_body.sl.prog.cont_2
  simp only [Prog.lift, Prog.bind_op, Prog.bind_ret, Prog.pure_eq_ret]
  rw [show 9216 * 42 = 387072 from rfl] at hh
  -- the counters are written out
  ihave Ho := (Entails.of_eq (pts_oRow (F := F) d L fo).symm) $$ Ho
  iapply (Transfers.wp_dmaFromWhole EC 𝒱₀ (thr d L) none (none : HIx 1) (oRow L).view.dmaCredit rfl (NR_pos L) (Finset.Subset.refl _)
    (dst := oRow L) (src := hW) (fs := h) (fd := fo) (q := fullShare)) $$ [Hh Ho HsR]
  · isplitl [Hh]; · iexact Hh
    isplitl [Ho]; · iexact Ho
    iexact HsR
  iintro HR
  iapply (Transfers.wp_waitLocalO EC 𝒱₀ (thr d L) none (none : HIx 1) (N := (oRow L).view.dmaCredit) rfl) $$ [HR HO]
  · isplitl [HR]; · iexact HR
    isplitl [HO]; · iexact HO
    iapply (Transfers.MayWaits.elim (SemLoc.dma cc0_scoped0.sem)) $$ Hmw
  iintro ⟨⟨Ho, Hh⟩, HsR, HO⟩
  ihave Ho := (Entails.of_eq ((pointsTo_congr (row_written (F := F) L fI fo h hh)).trans (pts_oRow (F := F) d L (histArr fI)))) $$ Ho
  rw [wp_ret]; imodintro
  isplitl [HI0 HI1 Ho]
  · isplitl [HI0]; · iexact HI0
    isplitl [HI1]; · iexact HI1
    iexact Ho
  isplitl [Hb0 Hb1 Hh Hbufs]
  · isplitl [Hb0]; · iexists b0; iexact Hb0
    isplitl [Hb1]; · iexists b1; iexact Hb1
    isplitl [Hh]; · iexists h; iexact Hh
    iexact Hbufs
  isplitl [Hs3 Hs4 HsR Hsems]
  · isplitl [Hs3]; · iexact Hs3
    isplitl [Hs4]; · iexact Hs4
    isplitl [HsR]; · iexact HsR
    iexact Hsems
  iexists _
  isplitr
  rotate_left
  · iexact HO
  · ipureintro; exact waits_insert hW₁ _

end Cert.Proof.Hist

end
-- ==== Proof.Launch.lean ====
/-
  The launch: the index array is dealt to the thirty-two tasks as read shares, the result by rows; every task runs as
  `tile_body` says, and what comes back is the index array as it was and the result holding the histograms.
-/
module

public import proofs.«01_k».proof.Proof.Task

@[expose] public section

noncomputable section

namespace Cert.Proof.Hist

open Cert.KernelIdeal Cert.KernelIdeal.Gen

open Idealize.ShloMosaic
open Idealize.ShloMosaic.ValueIdx Idealize.ShloMosaic.Routing
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ
local notation "iW" => (Memref.whole Cert.KernelIdeal.main_arg0_scv : Memref Cert.KernelIdeal.sig Kind.scVector Space.hbm Cert.KernelIdeal.S12386304 EltTy.i32)
local notation "oW" => (Memref.whole Cert.KernelIdeal.main_v0_scv : Memref Cert.KernelIdeal.sig Kind.scVector Space.hbm Cert.KernelIdeal.S32x43008 EltTy.i32)
local notation "b0W" => (Memref.whole Cert.KernelIdeal.cc0_scratch0 : Memref Cert.KernelIdeal.sig Kind.scVector Space.vmem Cert.KernelIdeal.S4608 EltTy.i32)
local notation "b1W" => (Memref.whole Cert.KernelIdeal.cc0_scratch1 : Memref Cert.KernelIdeal.sig Kind.scVector Space.vmem Cert.KernelIdeal.S4608 EltTy.i32)
local notation "hW" => (Memref.whole Cert.KernelIdeal.cc0_scratch2 : Memref Cert.KernelIdeal.sig Kind.scVector Space.vmem Cert.KernelIdeal.S43008 EltTy.i32)

variable (m : (ℓ : Loc nD τ sig) → Buf (Elt F) ℓ) (ρ : Dev nD → PrngReg)

/-! ## What the handshakes carry -/

/-- Task `w`'s part: two shares of the index array, and row `w` of the result at `f`. -/
def part (d : Dev nD) (w : ℕ) (f : Buf (Elt F) (oLoc d)) : sProp 𝕄 :=
  iprop((iLoc d ↦{(shareTokN fullShare w).left} m (iLoc d)) ∗ (iLoc d ↦{(shareTokN fullShare w).right} m (iLoc d))
    ∗ oLoc d ↦[outSet w]{fullShare} f)

/-- The result the call leaves: the histograms of the index array. -/
abbrev hist (d : Dev nD) : Buf (Elt F) (oLoc d) := histArr (m (iLoc d))

instance part_storable (d : Dev nD) (w : ℕ) (f : Buf (Elt F) (oLoc d)) : BI.Storable (upEmb : UEmb _ 𝕄) (part m d w f) := by
  unfold part; infer_instance

/-- The call takes every task's part with the result as launched, and brings it back with the result at the histograms. -/
def P : (K (F := F)).Pay (nD := nD) (Val := Elt F) (Name := ℕ) (U := UU) where
  st := fun q d c => match q with
    | 0 => bigSep Finset.univ fun i : Fin ((K (F := F)).nSub 0) => part m d (2 * i.val + c.val) (m (oLoc d))
  dn := fun q d c => match q with
    | 0 => bigSep Finset.univ fun i : Fin ((K (F := F)).nSub 0) => part m d (2 * i.val + c.val) (hist m d)
  go := fun q d c i => match q with | 0 => part m d (2 * i.val + c.val) (m (oLoc d))
  td := fun q d c i => match q with | 0 => part m d (2 * i.val + c.val) (hist m d)
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => part m d (2 * i.val + c.val) (m (oLoc d))))
  dn q d c := match q with
    | 0 => (inferInstance : BI.Storable (upEmb : UEmb _ 𝕄)
        (bigSep Finset.univ fun i : Fin ((K (F := F)).nSub 0) => part m d (2 * i.val + c.val) (hist m d)))
  go q d c i := match q with
    | 0 => (inferInstance : BI.Storable (upEmb : UEmb _ 𝕄) (part m d (2 * i.val + c.val) (m (oLoc d))))
  td q d c i := match q with
    | 0 => (inferInstance : BI.Storable (upEmb : UEmb _ 𝕄) (part m d (2 * i.val + c.val) (hist m d)))

/-! ## The tasks -/

/-- What the proof asks of the launch memory: every word of the index array names a bin. -/
def PreOK : Prop := ∀ (d : Dev nD) (j : S12386304.Idx), (m (iLoc d) j).toNat < 43008

theorem words_lt (hpre : PreOK m) (d : Dev nD) (L : grid0.Coords) (n : ℕ) : (words (m (iLoc d)) L n).toNat < 43008 := by
  unfold words word
  split
  · exact hpre d _
  · decide

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__hist_body (coordsV c s)
          iW (Memref.isWhole_whole _) oW (Memref.isWhole_whole _) b0W (Memref.isWhole_whole _) b1W (Memref.isWhole_whole _)
          hW (Memref.isWhole_whole _) cc0_scratch3 cc0_scratch4 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem obl_pre {A C R : sProp 𝕄} : iprop(A ∗ emp ∗ C ∗ R) ⊢ iprop(A ∗ C ∗ R) := by
  iintro ⟨HA, -, HC, HR⟩
  isplitl [HA]; · iexact HA
  isplitl [HC]; · iexact HC
  iexact HR

set_option maxRecDepth 1024 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact obl_pre.trans ((tile_body d (coordsV ⟨_, hc.1⟩ ⟨_, hc.2⟩) hF (m (iLoc d)) (words_lt m hpre d _)
    (shareTokN fullShare (2 * i.val + c.val)).left (shareTokN fullShare (2 * i.val + c.val)).right (m (oLoc d)) O W hO).trans
    (wp_mono frame _ _ fun _ => obl_post (q := 0)))

theorem vecSplit : (K (F := F)).VecSplit' (P m) 0 := by
  intro d c
  show iprop(bigSep Finset.univ fun i : Fin ((K (F := F)).nSub 0) => part m d (2 * i.val + c.val) (m (oLoc d))) ⊢ |={Set.univ}=> iprop(
      (bigSep Finset.univ fun i : Fin ((K (F := F)).nSub 0) => part m d (2 * i.val + c.val) (m (oLoc d)))
      ∗ ((bigSep Finset.univ fun i : Fin ((K (F := F)).nSub 0) => part m d (2 * i.val + c.val) (hist m d))
          -∗ (bigSep Finset.univ fun i : Fin ((K (F := F)).nSub 0) => part m d (2 * i.val + c.val) (hist m d))))
  iintro H; imodintro
  isplitl [H]; · iexact H
  iintro H; iexact H

/-! ## The parts, dealt out and put together -/

theorem rows_disjoint : ∀ w ∈ (Finset.univ : Finset (Fin 32)), ∀ w' ∈ (Finset.univ : Finset (Fin 32)), w ≠ w' →
    Disjoint (outSet w.val) (outSet w'.val) := by
  intro w _ w' _ h
  refine Finset.disjoint_left.mpr fun j h1 h2 => h (Fin.ext ?_)
  exact (Finset.mem_filter.mp h1).2.symm.trans (Finset.mem_filter.mp h2).2

theorem rows_cover : (Finset.univ : Finset (Fin 32)).biUnion (fun w => outSet w.val) = Finset.univ :=
  Finset.eq_univ_iff_forall.mpr fun j =>
    Finset.mem_biUnion.mpr ⟨j 0, Finset.mem_univ _, Finset.mem_filter.mpr ⟨Finset.mem_univ _, rfl⟩⟩

theorem out_rows (d : Dev nD) (f : Buf (Elt F) (oLoc d)) :
    (oLoc d ↦{fullShare} f : sProp 𝕄) = bigSep Finset.univ fun w : Fin 32 => oLoc d ↦[outSet w.val]{fullShare} f := by
  rw [← pointsTo_biUnion Finset.univ (ℓ := oLoc d) (fun w : Fin 32 => outSet w.val) rows_disjoint, rows_cover]; try rfl

/-- One share of the index array is its two halves. -/
theorem tok_halves (d : Dev nD) (q : PosShare TreeShare) :
    (iLoc d ↦{q} m (iLoc d) : sProp 𝕄) ⊣⊢ iprop((iLoc d ↦{q.left} m (iLoc d)) ∗ iLoc d ↦{q.right} m (iLoc d)) :=
  pointsTo_share (PosShare.mem_left_op_right _)

theorem toks_halve (d : Dev nD) :
    (bigSep Finset.univ fun i : Fin 32 => (iLoc d ↦{shareTok fullShare 32 i} m (iLoc d) : sProp 𝕄))
      ⊢ bigSep Finset.univ fun i : Fin 32 => iprop((iLoc d ↦{(shareTokN fullShare i.val).left} m (iLoc d)) ∗ iLoc d ↦{(shareTokN fullShare i.val).right} m (iLoc d)) :=
  bigSep_mono fun _ _ => (tok_halves m d _).1

theorem toks_join (d : Dev nD) :
    (bigSep Finset.univ fun i : Fin 32 => iprop((iLoc d ↦{(shareTokN fullShare i.val).left} m (iLoc d)) ∗ iLoc d ↦{(shareTokN fullShare i.val).right} m (iLoc d)) : sProp 𝕄)
      ⊢ bigSep Finset.univ fun i : Fin 32 => iLoc d ↦{shareTok fullShare 32 i} m (iLoc d) :=
  bigSep_mono fun _ _ => (tok_halves m d _).2

/-- What is kept of the index array while the tasks run. -/
abbrev kept (d : Dev nD) : sProp 𝕄 := iLoc d ↦{shareDrop fullShare 32} m (iLoc d)

theorem deal (d : Dev nD) (f : Buf (Elt F) (oLoc d)) :
    iprop((iLoc d ↦{fullShare} m (iLoc d)) ∗ oLoc d ↦{fullShare} f) ⊢ iprop(kept m d ∗ bigSep Finset.univ fun w : Fin 32 => part m d w.val f) := by
  unfold part
  rw [bigSep_sep', bigSep_sep', ← out_rows]
  iintro ⟨Hi, Ho⟩
  ihave Hi := (pointsTo_toks_split (ℓ := iLoc d) (S := Finset.univ) (f := m (iLoc d)) fullShare 32) $$ Hi
  icases Hi with ⟨Hk, Ht⟩
  isplitl [Hk]; · iexact Hk
  ihave Ht := (toks_halve m d) $$ Ht
  ihave Ht := (Entails.of_eq (bigSep_sep' _ _ _)) $$ Ht
  icases Ht with ⟨Ha, Hb⟩
  isplitl [Ha]; · iexact Ha
  isplitl [Hb]; · iexact Hb
  iexact Ho

theorem undeal (d : Dev nD) (f : Buf (Elt F) (oLoc d)) :
    iprop(kept m d ∗ bigSep Finset.univ fun w : Fin 32 => part m d w.val f) ⊢ iprop((iLoc d ↦{fullShare} m (iLoc d)) ∗ oLoc d ↦{fullShare} f) := by
  unfold part
  rw [bigSep_sep', bigSep_sep', ← out_rows]
  iintro ⟨Hk, Ha, Hb, Ho⟩
  isplitr [Ho]
  · iapply (pointsTo_toks_join (ℓ := iLoc d) (S := Finset.univ) (f := m (iLoc d)) fullShare 32)
    isplitl [Hk]; · iexact Hk
    iapply (toks_join m d)
    rw [bigSep_sep']
    isplitl [Ha]; · iexact Ha
    iexact Hb
  · iexact Ho

/-- The task of SparseCore `c`, subcore `i`. -/
def taskOf (p : Fin 2 × Fin 16) : Fin 32 := ⟨2 * p.2.val + p.1.val, by omega⟩

theorem taskOf_inj : Set.InjOn taskOf ((Finset.univ : Finset (Fin 2 × Fin 16)) : Set _) := by
  rintro ⟨a, b⟩ _ ⟨a', b'⟩ _ e
  have e' : 2 * b.val + a.val = 2 * b'.val + a'.val := congrArg Fin.val e
  exact Prod.ext (Fin.ext (by show a.val = a'.val; omega)) (Fin.ext (by show b.val = b'.val; omega))

theorem taskOf_univ : (Finset.univ : Finset (Fin 2 × Fin 16)).image taskOf = Finset.univ := by
  refine Finset.eq_univ_iff_forall.mpr fun w => Finset.mem_image.mpr
    ⟨(⟨w.val % 2, by omega⟩, ⟨w.val / 2, by omega⟩), Finset.mem_univ _, Fin.ext ?_⟩
  show 2 * (w.val / 2) + w.val % 2 = w.val
  omega

theorem by_cores (Φ : ℕ → sProp 𝕄) :
    (bigSep Finset.univ fun w : Fin 32 => Φ w.val)
      = bigSep Finset.univ fun c : Fin 2 => bigSep Finset.univ fun i : Fin 16 => Φ (2 * i.val + c.val) := by
  rw [← taskOf_univ, SparseCore.bigSep_image_of_injOn taskOf_inj, ← Finset.univ_product_univ]
  exact SparseCore.bigSep_product _ _ _

theorem st0_eq (d : Dev nD) : (bigSep Finset.univ fun c : Fin ((K (F := F)).nCore 0) => (P m).st 0 d c)
    = bigSep Finset.univ fun w : Fin 32 => part m d w.val (m (oLoc d)) :=
  (by_cores fun w => part m d w (m (oLoc d))).symm
theorem dn0_eq (d : Dev nD) : (bigSep Finset.univ fun c : Fin ((K (F := F)).nCore 0) => (P m).dn 0 d c)
    = bigSep Finset.univ fun w : Fin 32 => part m d w.val (hist m d) :=
  (by_cores fun w => part m d w (hist m d)).symm

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem unscopedBufs_eq (d : Dev nD) (W : (b : Ref sig .tc) → Buf (Elt F) ((d.tc : Thread nD τ).loc b)) :
    (unscopedBufs d W : sProp 𝕄) = iprop((iLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What @main leaves: the index array as launched, the result at the histograms. -/
abbrev FIN (d : Dev nD) : sProp 𝕄 := iprop((iLoc d ↦{fullShare} m (iLoc d)) ∗ oLoc d ↦{fullShare} hist m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hio, Hts, -⟩, -⟩
  ihave Hio := (deal m d (m (oLoc d))) $$ Hio
  icases Hio with ⟨Hk, Hp⟩
  iapply ((K (F := F)).wp_run (D (F := F)) 𝒱 (EH := EH) (P := P m) κ d 0) $$ [Hst Hk Hp Hb Hts]
  isplitr; · iexact Hctx
  isplitl [Hst]; · iexact Hst
  isplitl [Hp]
  · rw [st0_eq]; iexact Hp
  iintro ⟨Hst, Hdn⟩
  ihave Hdn' := (Entails.of_eq (dn0_eq m d)) $$ Hdn
  imodintro
  isplitl [Hst]; · iexact Hst
  isplitr [Hb Hts]
  · iapply (undeal m d (hist m d))
    isplitl [Hk]; · iexact Hk
    iexact Hdn'
  isplitl [Hb] <;> iassumption

def fq (d : Dev nD) (s' : Phys nD τ sig (Elt F)) : Prop := s'.mem.mem (iLoc d) = m (iLoc d) ∧ s'.mem.mem (oLoc d) = hist m d

theorem hfin (d : Dev nD) (s' : Phys nD τ sig (Elt F)) : iprop(FIN m d ∗ SI s') ⊢ (⌜fq m d s'⌝ : sProp 𝕄) := by
  iintro ⟨⟨Hi, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (SI_pointsTo_agree (st := s') (ℓ := oLoc d) (I := Finset.univ) (q := fullShare) (f := hist m d)) $$ [HSI Ho]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop :=
  fun r => (∀ c : Dev nD, r.2.mem (iLoc c) = m (iLoc c) ∧ r.2.mem (oLoc c) = hist m c) ∧ r.2.sem = fun _ => 0

/-- From any launch memory whose index array names bins only, the program ends: the index array unchanged, the result at
    the histograms, every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Hist

end
-- ==== Proof.RefValue.lean ====
/-
  The reference's value: the scatter of ones over slots — a run's number times the number of bins, plus the bin — counts,
  at every run and bin, the words of the run that name the bin; that is the histograms the kernel leaves.
-/
module

public import proofs.«01_k».proof.Proof.Task
public import proofs.«01_k».proof.Proof.Gen.ReferenceIdeal
public import proofs.«01_k».proof.Proof.Gen.Reference

@[expose] public section

noncomputable section

namespace Cert.Proof.Ref

open Cert.ReferenceIdeal Cert.ReferenceIdeal.Gen
open Idealize.ShloMosaic Idealize.ShloMosaic.ValueIdx Idealize.ShloMosaic.Routing
open Cert.Proof.Hist (word histArr)

/-- The slot of every word of the index array, as the reference computes it. -/
abbrev slots (x : IVec S12386304 32) : IVec S12386304 32 :=
  shapeCast _ (addi (broadcastInDim S32x387072 ![0, 1] bcast_S32x1_S32x387072_0_1 (muli (broadcastInDim S32x1 ![0] bcast_S32_S32x1_0 (iotaInDim S32 32 0)) (broadcastInDim S32x1 ![] bcast_S_S32x1 (constantI S_ 32 43008#32)))) (shapeCast _ x shapeCasts_S12386304_S32x387072)) shapeCasts_S32x387072_S12386304

/-- The reference's term. -/
abbrev term (x : IVec S12386304 32) : IVec S32x43008 32 :=
  shapeCast _ (Host.scatter scatter_S1376256_S12386304x1_S12386304_n_0_0_1 IntOp.addi (broadcastInDim S1376256 ![] bcast_S_S1376256 (constantI S_ 32 0#32)) (broadcastInDim S12386304x1 ![0] bcast_S12386304_S12386304x1_0 (select (cmpi .slt (slots x) (broadcastInDim S12386304 ![] bcast_S_S12386304 (constantI S_ 32 0#32))) (addi (slots x) (broadcastInDim S12386304 ![] bcast_S_S12386304 (constantI S_ 32 1376256#32))) (slots x))) (broadcastInDim S12386304 ![] bcast_S_S12386304 (constantI S_ 32 1#32))) shapeCasts_S1376256_S32x43008

/-- A vector broadcast to one column reads, at row `k`, the vector at `k`. -/
theorem bcast_col {α : Type} {n : ℕ} (hn : n ≠ 1) (h : (⟨1, ![n]⟩ : Shape).BroadcastsInDim ⟨2, ![n, 1]⟩ ![0]) (f : (⟨1, ![n]⟩ : Shape).Idx → α)
    (k : Fin n) : broadcastInDim ⟨2, ![n, 1]⟩ ![0] h f (ix2 k (0 : Fin 1)) = f (ix1 k) := by
  refine congrArg f (funext fun a => ?_)
  match a with
  | ⟨0, _⟩ => exact dif_neg hn

/-- Word `k` lies in run `k / 387072`; its slot is that run's first and the word on top. -/
theorem slots_apply (x : IVec S12386304 32) (k : Fin 12386304) :
    slots x (ix1 k) = BitVec.ofNat 32 (k.val / 387072) * 43008#32 + x (ix1 k) := by
  have hw : k.val / 387072 < 32 := by omega
  have hn : k.val % 387072 < 387072 := Nat.mod_lt _ (by decide)
  have e1 : slots x (ix1 k)
      = (addi (broadcastInDim S32x387072 ![0, 1] bcast_S32x1_S32x387072_0_1 (muli (broadcastInDim S32x1 ![0] bcast_S32_S32x1_0 (iotaInDim S32 32 0)) (broadcastInDim S32x1 ![] bcast_S_S32x1 (constantI S_ 32 43008#32)))) (shapeCast _ x shapeCasts_S12386304_S32x387072))
          (ix2 (⟨k.val / 387072, hw⟩ : Fin 32) (⟨k.val % 387072, hn⟩ : Fin 387072) : S32x387072.Idx) :=
    shapeCast_apply _ _ _ _ (by
      rw [Shape.rowMajor_val_two, Shape.rowMajor_val_one]
      show k.val / 387072 * 387072 + k.val % 387072 = k.val
      omega)
  have e2 : shapeCast S32x387072 x shapeCasts_S12386304_S32x387072 (ix2 (⟨k.val / 387072, hw⟩ : Fin 32) (⟨k.val % 387072, hn⟩ : Fin 387072) : S32x387072.Idx)
      = x (ix1 k) :=
    shapeCast_apply _ _ _ _ (by
      rw [Shape.rowMajor_val_two, Shape.rowMajor_val_one]
      show k.val = k.val / 387072 * 387072 + k.val % 387072
      omega)
  rw [e1]
  show _ + shapeCast S32x387072 x shapeCasts_S12386304_S32x387072 _ = _
  rw [e2]
  rfl

theorem slots_toNat (x : IVec S12386304 32) (hx : ∀ j, (x j).toNat < 43008) (k : Fin 12386304) :
    (slots x (ix1 k)).toNat = k.val / 387072 * 43008 + (x (ix1 k)).toNat := by
  have h := hx (ix1 k)
  have hw : k.val / 387072 < 32 := by omega
  rw [slots_apply, BitVec.toNat_add, BitVec.toNat_mul, BitVec.toNat_ofNat, BitVec.toNat_ofNat]
  omega

/-- The words at run `w` and bin `v`, counted through their slots. -/
theorem count_slots (x : IVec S12386304 32) (hx : ∀ j, (x j).toNat < 43008) (w : Fin 32) (v : Fin 43008) :
    (Finset.univ.filter fun k : Fin 12386304 => (slots x (ix1 k)).toNat = w.val * 43008 + v.val).card
      = ((Finset.range 387072).filter fun n => (word x (387072 * w.val + n)).toNat = v.val).card := by
  have hwd : ∀ (n : ℕ) (h : n < 12386304), word x n = x (ix1 (⟨n, h⟩ : Fin 12386304)) := fun n h => dif_pos h
  refine Finset.card_bij (fun k _ => k.val - 387072 * w.val) ?_ ?_ ?_
  · intro k hk
    have e := (Finset.mem_filter.mp hk).2
    rw [slots_toNat x hx] at e
    have hk' := hx (ix1 k)
    have hv := v.isLt
    have hq : k.val / 387072 = w.val := by omega
    have h1 : 387072 * w.val ≤ k.val := by omega
    refine Finset.mem_filter.mpr ⟨Finset.mem_range.mpr (by omega), ?_⟩
    rw [show 387072 * w.val + (k.val - 387072 * w.val) = k.val by omega, hwd k.val k.isLt]
    show (x (ix1 k)).toNat = v.val
    omega
  · intro a ha b hb e
    have ea := (Finset.mem_filter.mp ha).2
    have eb := (Finset.mem_filter.mp hb).2
    rw [slots_toNat x hx] at ea eb
    have h1 := hx (ix1 a)
    have h2 := hx (ix1 b)
    have hv := v.isLt
    refine Fin.ext ?_
    have e' : a.val - 387072 * w.val = b.val - 387072 * w.val := e
    omega
  · intro n hn
    obtain ⟨h1, h2⟩ := Finset.mem_filter.mp hn
    have h1 := Finset.mem_range.mp h1
    have hw := w.isLt
    have hlt : 387072 * w.val + n < 12386304 := by omega
    refine ⟨⟨387072 * w.val + n, hlt⟩, Finset.mem_filter.mpr ⟨Finset.mem_univ _, ?_⟩, ?_⟩
    · rw [slots_toNat x hx, ← hwd _ hlt, h2]
      show (387072 * w.val + n) / 387072 * 43008 + v.val = _
      omega
    · show 387072 * w.val + n - 387072 * w.val = n
      omega

/-- The reference's result is the histograms. -/
theorem term_eq (x : IVec S12386304 32) (hx : ∀ j, (x j).toNat < 43008) : term x = histArr x := by
  funext j
  obtain ⟨w, v, rfl⟩ : ∃ (w : Fin 32) (v : Fin 43008), j = (ix2 w v : S32x43008.Idx) := ⟨j 0, j 1, eq_ix2 j⟩
  have hw := w.isLt
  have hv := v.isLt
  have hlt : w.val * 43008 + v.val < 1376256 := by omega
  refine (shapeCast_apply _ shapeCasts_S1376256_S32x43008 (ix2 w v : S32x43008.Idx) (ix1 (⟨w.val * 43008 + v.val, hlt⟩ : Fin 1376256) : S1376256.Idx) (by
    rw [Shape.rowMajor_val_two, Shape.rowMajor_val_one]; rfl)).trans ?_
  refine (scatter_add_one scatter_S1376256_S12386304x1_S12386304_n_0_0_1 rfl rfl rfl _ _ _ (fun _ => rfl) _).trans ?_
  show 0#32 + _ = BitVec.ofNat 32 _
  rw [BitVec.zero_add]
  show BitVec.ofNat 32 _ = BitVec.ofNat 32 _
  rw [← count_slots x hx w v]
  refine congrArg (fun s => BitVec.ofNat 32 (Finset.card s)) (Finset.filter_congr fun k _ => ?_)
  have hs := slots_toNat x hx k
  have hk := hx (ix1 k)
  have hq : k.val / 387072 < 32 := by omega
  have hnn : ¬ (slots x (ix1 k)).slt 0#32 = true := by
    rw [BitVec.slt_eq_decide, decide_eq_true_eq, BitVec.toInt_eq_toNat_cond, BitVec.toInt_eq_toNat_cond]
    simp only [BitVec.toNat_ofNat]
    omega
  have hsel : (broadcastInDim S12386304x1 ![0] bcast_S12386304_S12386304x1_0 (select (cmpi .slt (slots x) (broadcastInDim S12386304 ![] bcast_S_S12386304 (constantI S_ 32 0#32))) (addi (slots x) (broadcastInDim S12386304 ![] bcast_S_S12386304 (constantI S_ 32 1376256#32))) (slots x))) (ix2 k (0 : Fin 1))
      = slots x (ix1 k) := by
    refine (bcast_col (by decide) bcast_S12386304_S12386304x1_0 _ k).trans ?_
    show Scalar.select (BitVec.ofBool ((slots x (ix1 k)).slt 0#32)) _ (slots x (ix1 k)) = _
    rw [Bool.eq_false_iff.mpr hnn]
    exact if_neg (by decide)
  rw [hsel, BitVec.toInt_eq_toNat_cond, if_pos (by omega)]
  simp only [Nat.cast_inj]

end Cert.Proof.Ref

end
-- ==== Proof.Pixel.lean ====
/-
  One pixel over the reals: the softmax of its twenty-one logits, the error of a class, the bin of the error; and the extended
  real and word operations of the two programs read at such values.
-/
module

public import proofs.«01_k».proof.Defs
public import Idealize.ShloMosaic.Lib.IdealHost
public import Mathlib.Analysis.SpecialFunctions.Exp
public import Mathlib.Data.Finset.Lattice.Fold
public import Mathlib.Algebra.Order.Floor.Semiring

@[expose] public section

noncomputable section

namespace Cert.Proof.Pixel

open Idealize.ShloMosaic
open Finset

variable (x : Fin 21 → ℝ)

/-- The greatest logit. -/
def top : ℝ := univ.sup' ⟨0, mem_univ _⟩ x
/-- The softmax. -/
def prob (c : Fin 21) : ℝ := Real.exp (x c - top x) / ∑ k, Real.exp (x k - top x)
/-- The error of class `c` at a pixel whose label is `c` or is not. -/
def err (p : Bool) (c : Fin 21) : ℝ := bif p then 1 - prob x c else prob x c
/-- Its bin, of 1024 equal bins of [0, 1]. -/
def bin (p : Bool) (c : Fin 21) : ℕ := min ⌊err x p c * 1024⌋₊ 1023

theorem sum_pos : 0 < ∑ k, Real.exp (x k - top x) := Finset.sum_pos (fun _ _ => Real.exp_pos _) ⟨0, mem_univ _⟩

theorem prob_nonneg (c : Fin 21) : 0 ≤ prob x c := div_nonneg (Real.exp_pos _).le (sum_pos x).le

theorem prob_le_one (c : Fin 21) : prob x c ≤ 1 := by
  unfold prob
  rw [div_le_one (sum_pos x)]
  exact Finset.single_le_sum (f := fun k => Real.exp (x k - top x)) (fun _ _ => (Real.exp_pos _).le) (mem_univ c)

theorem err_nonneg (p : Bool) (c : Fin 21) : 0 ≤ err x p c := by
  cases p
  · exact prob_nonneg x c
  · exact sub_nonneg.mpr (prob_le_one x c)

theorem err_le_one (p : Bool) (c : Fin 21) : err x p c ≤ 1 := by
  cases p
  · exact prob_le_one x c
  · exact sub_le_self 1 (prob_nonneg x c)

theorem bin_lt (p : Bool) (c : Fin 21) : bin x p c < 1024 := by unfold bin; omega

/-! ## The softmax over the extended reals -/

theorem fold_max {y : Fin 21 → EReal} (hy : ∀ k, y k = (x k : EReal)) : (univ : Finset (Fin 21)).fold max ⊥ y = (top x : EReal) := by
  have h1 : (univ : Finset (Fin 21)).fold max ⊥ y = univ.sup y := rfl
  rw [h1]
  apply le_antisymm
  · refine Finset.sup_le fun k _ => ?_
    rw [hy]
    exact EReal.coe_le_coe_iff.mpr (Finset.le_sup' x (mem_univ k))
  · obtain ⟨k, hk, he⟩ := Finset.exists_mem_eq_sup' (s := univ) ⟨(0 : Fin 21), mem_univ _⟩ x
    unfold top
    rw [he, ← hy]
    exact Finset.le_sup hk

theorem exp_coe (r : ℝ) : Ideal.exp (r : EReal) = (Real.exp r : EReal) := rfl

theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem soft {y : Fin 21 → EReal} (hy : ∀ k, y k = (x k : EReal)) (c : Fin 21) :
    Ideal.div (Ideal.exp (y c - (top x : EReal))) (∑ k, Ideal.exp (y k - (top x : EReal))) = (prob x c : EReal) := by
  simp only [hy, ← EReal.coe_sub, exp_coe]
  rw [sum_coe, div_coe (sum_pos x).ne']
  rfl

/-! ## The bin as a word and as a float -/

theorem f1024 : Ideal.ofBits .f32 0x44800000#32 = ((1024 : ℝ) : EReal) := by
  simp [Ideal.ofBits, Ideal.ieee, -EReal.coe_mul]; norm_num
theorem f1023 : Ideal.ofBits .f32 0x447FC000#32 = ((1023 : ℝ) : EReal) := by
  simp [Ideal.ofBits, Ideal.ieee, -EReal.coe_mul]; norm_num
theorem fhalf : Ideal.ofBits .f32 0x3F000000#32 = ((1 / 2 : ℝ) : EReal) := by
  simp [Ideal.ofBits, Ideal.ieee, -EReal.coe_mul]; norm_num
theorem f21 : Ideal.ofBits .f32 0x41A80000#32 = ((21 : ℝ) : EReal) := by
  simp [Ideal.ofBits, Ideal.ieee, -EReal.coe_mul]; norm_num
theorem fhalfbin : Ideal.ofBits .f32 0x3A000000#32 = ((1 / 2 / 1024 : ℝ) : EReal) := by
  simp [Ideal.ofBits, Ideal.ieee, -EReal.coe_mul]; norm_num
theorem fone : Ideal.ofBits .f32 0x3F800000#32 = ((1 : ℝ) : EReal) := by
  rw [Ideal.ofBits_one_f32]; norm_cast
theorem fbot : Ideal.ofBits .f32 0xFF800000#32 = ⊥ := by simp [Ideal.ofBits, Ideal.ieee]

theorem fptosi_nonneg {r : ℝ} (h0 : 0 ≤ r) (h1 : r ≤ 1024) : Ideal.fptosi 32 (r : EReal) = BitVec.ofNat 32 ⌊r⌋₊ := by
  have hf : ⌊r⌋₊ ≤ 1024 := by
    have := Nat.floor_le_floor h1
    simpa using this
  unfold Ideal.fptosi
  rw [Ideal.toIntClamped_coe, if_pos h0, ← Int.natCast_floor_eq_floor h0]
  rw [show max (-((2 ^ (32 - 1) : ℕ) : ℤ)) (min (((2 ^ (32 - 1) : ℕ) : ℤ) - 1) ((⌊r⌋₊ : ℕ) : ℤ)) = ((⌊r⌋₊ : ℕ) : ℤ) by
    norm_num; omega]
  exact BitVec.ofInt_natCast ..

theorem word_eq (p : Bool) (c : Fin 21) :
    IntOp.minsi (Ideal.fptosi 32 (((err x p c : ℝ) : EReal) * ((1024 : ℝ) : EReal))) 1023#32 = BitVec.ofNat 32 (bin x p c) := by
  have h0 : 0 ≤ err x p c * 1024 := mul_nonneg (err_nonneg x p c) (by norm_num)
  have h1 : err x p c * 1024 ≤ 1024 := by have := err_le_one x p c; linarith
  rw [← EReal.coe_mul, fptosi_nonneg h0 h1]
  have hf : ⌊err x p c * 1024⌋₊ ≤ 1024 := by
    have := Nat.floor_le_floor h1
    simpa using this
  unfold bin
  generalize ⌊err x p c * 1024⌋₊ = n at hf
  unfold IntOp.minsi
  have hs : (BitVec.ofNat 32 n).slt 1023#32 = decide (n < 1023) := by
    rw [BitVec.slt, BitVec.toInt_eq_toNat_of_lt (by rw [BitVec.toNat_ofNat]; omega), BitVec.toNat_ofNat,
      Nat.mod_eq_of_lt (by omega)]
    simp
  rw [hs]
  by_cases h : n < 1023
  · rw [decide_eq_true h, if_pos rfl, min_eq_left (by omega)]
  · rw [decide_eq_false h, if_neg (by decide), min_eq_right (by omega)]

/-- The midpoint of the bin. -/
def mid (n : ℕ) : ℝ := ((n : ℝ) + 1 / 2) / 1024

theorem mid_eq (p : Bool) (c : Fin 21) :
    Ideal.div (min (Ideal.hostUnary .floor (((err x p c : ℝ) : EReal) * ((1024 : ℝ) : EReal))) ((1023 : ℝ) : EReal) + ((1 / 2 : ℝ) : EReal)) ((1024 : ℝ) : EReal)
      = (mid (bin x p c) : EReal) := by
  have h0 : 0 ≤ err x p c * 1024 := mul_nonneg (err_nonneg x p c) (by norm_num)
  rw [← EReal.coe_mul]
  have hfl : Ideal.hostUnary .floor ((err x p c * 1024 : ℝ) : EReal) = (((⌊err x p c * 1024⌋₊ : ℕ) : ℝ) : EReal) := by
    show (((⌊err x p c * 1024⌋ : ℤ) : ℝ) : EReal) = _
    rw [← natCast_floor_eq_intCast_floor h0]
  rw [hfl]
  have hmin : min (((⌊err x p c * 1024⌋₊ : ℕ) : ℝ) : EReal) ((1023 : ℝ) : EReal) = ((bin x p c : ℝ) : EReal) := by
    unfold bin
    rw [← EReal.coe_strictMono.monotone.map_min]
    push_cast; rfl
  rw [hmin, ← EReal.coe_add, div_coe (by norm_num)]
  rfl

/-- The absolute difference of the one-hot label and the softmax is the error. -/
theorem abs_eq (p : Bool) (c : Fin 21) :
    max ((((bif p then 1 else 0 : ℝ)) : EReal) - (prob x c : EReal)) (-((((bif p then 1 else 0 : ℝ)) : EReal) - (prob x c : EReal)))
      = (err x p c : EReal) := by
  rw [← EReal.coe_sub, ← EReal.coe_neg, ← EReal.coe_strictMono.monotone.map_max]
  refine congrArg _ ?_
  cases p
  · show max (0 - prob x c) (-(0 - prob x c)) = prob x c
    have := prob_nonneg x c
    rw [max_eq_right (by linarith)]; ring
  · show max (1 - prob x c) (-(1 - prob x c)) = 1 - prob x c
    have := prob_le_one x c
    rw [max_eq_left (by linarith)]

end Cert.Proof.Pixel
-- ==== Proof.Lovasz.lean ====
/-
  The equation behind the histogram form of the Lovász-softmax loss, over the reals. One class: pixels `0 … N - 1` in
  descending order of their bins `b`, `l` their one-hot labels. The sum of the bins' midpoints against the steps of the
  Jaccard index is the mean over the bins of `K j / max (K j + B j) 1`, less half a bin: `K j` counts the pixels in bin `j`
  or above, `B j` the labelled pixels below it.
-/
module

public import proofs.«01_k».proof.Defs
public import Mathlib.Algebra.BigOperators.Intervals
public import Mathlib.Algebra.Order.BigOperators.Group.Finset
public import Mathlib.Tactic.Ring
public import Mathlib.Tactic.FieldSimp
public import Mathlib.Tactic.Linarith

@[expose] public section

namespace Cert.Proof.Lovasz

open Finset

/-- The pixels in bin `j` or above. -/
def K (N : ℕ) (b : ℕ → ℕ) (j : ℕ) : ℕ := ((range N).filter fun i => j ≤ b i).card
/-- The labelled pixels below bin `j`. -/
def B (N : ℕ) (b l : ℕ → ℕ) (j : ℕ) : ℕ := ∑ i ∈ (range N).filter (fun i => b i < j), l i
/-- The labelled pixels among the first `k`. -/
def S (l : ℕ → ℕ) (k : ℕ) : ℕ := ∑ i ∈ range k, l i

variable {N : ℕ} {b l : ℕ → ℕ}

/-- In descending order the pixels in bin `j` or above come first. -/
theorem mem_iff (hs : ∀ i j, i ≤ j → j < N → b j ≤ b i) (j : ℕ) {k : ℕ} (hk : k < N) : j ≤ b k ↔ k < K N b j := by
  constructor
  · intro h
    have hsub : range (k + 1) ⊆ (range N).filter fun i => j ≤ b i := fun i hi => by
      have hi' := mem_range.mp hi
      exact mem_filter.mpr ⟨mem_range.mpr (by omega), h.trans (hs i k (by omega) hk)⟩
    have := card_le_card hsub
    rw [card_range] at this
    unfold K; omega
  · intro h
    by_contra hc
    have hsub : ((range N).filter fun i => j ≤ b i) ⊆ range k := fun i hi => by
      obtain ⟨hi, hj⟩ := mem_filter.mp hi
      rw [mem_range] at hi ⊢
      by_contra hki
      exact hc (hj.trans (hs k i (by omega) hi))
    have := card_le_card hsub
    rw [card_range] at this
    unfold K at h; omega

theorem K_le (j : ℕ) : K N b j ≤ N := by
  have := card_le_card (filter_subset (fun i => j ≤ b i) (range N))
  rwa [card_range] at this

theorem B_eq (hs : ∀ i j, i ≤ j → j < N → b j ≤ b i) (j : ℕ) : S l (K N b j) + B N b l j = S l N := by
  have hf : (range N).filter (fun i => b i < j) = range N \ range (K N b j) := by
    ext i
    simp only [mem_filter, mem_range, mem_sdiff]
    constructor
    · rintro ⟨hi, hb⟩
      exact ⟨hi, fun h => absurd ((mem_iff hs j hi).mpr h) (by omega)⟩
    · rintro ⟨hi, hb⟩
      refine ⟨hi, ?_⟩
      by_contra h
      exact hb ((mem_iff hs j hi).mp (by omega))
  unfold B S
  rw [hf, add_comm]
  exact sum_sdiff (range_subset_range.mpr (K_le j))

/-- The Jaccard index after the first `k` pixels. -/
noncomputable def J (N : ℕ) (l : ℕ → ℕ) (k : ℕ) : ℝ := (k : ℝ) / (((S l N : ℕ) : ℝ) - S l k + k)

theorem sum_above (hs : ∀ i j, i ≤ j → j < N → b j ≤ b i) (j : ℕ) :
    (∑ k ∈ range N, (if j ≤ b k then (1 : ℝ) else 0) * (J N l (k + 1) - J N l k))
      = (K N b j : ℝ) / max ((K N b j : ℝ) + B N b l j) 1 := by
  have h1 : (∑ k ∈ range N, (if j ≤ b k then (1 : ℝ) else 0) * (J N l (k + 1) - J N l k))
      = ∑ k ∈ range (K N b j), (J N l (k + 1) - J N l k) := by
    rw [← sum_subset (range_subset_range.mpr (K_le (N := N) (b := b) j))
      (f := fun k => (if j ≤ b k then (1 : ℝ) else 0) * (J N l (k + 1) - J N l k))]
    · refine sum_congr rfl fun k hk => ?_
      have hk' := mem_range.mp hk
      have hkN : k < N := lt_of_lt_of_le hk' (K_le j)
      rw [if_pos ((mem_iff hs j hkN).mpr hk'), one_mul]
    · intro k hk hn
      rw [if_neg (fun h => hn (mem_range.mpr ((mem_iff hs j (mem_range.mp hk)).mp h))), zero_mul]
  rw [h1, sum_range_sub]
  have h0 : J N l 0 = 0 := by unfold J; simp
  have hB : ((S l N : ℕ) : ℝ) = (S l (K N b j) : ℝ) + (B N b l j : ℝ) := by exact_mod_cast (B_eq (l := l) hs j).symm
  rw [h0, sub_zero]
  unfold J
  rw [hB]
  have hden : (S l (K N b j) : ℝ) + (B N b l j : ℝ) - S l (K N b j) + (K N b j : ℝ) = (K N b j : ℝ) + B N b l j := by ring
  rw [hden]
  by_cases hz : K N b j + B N b l j = 0
  · have hk0 : K N b j = 0 := by omega
    rw [hk0]; simp
  · rw [max_eq_left]
    exact_mod_cast Nat.one_le_iff_ne_zero.mpr hz

theorem mid_eq {x : ℕ} (hx : x < 1024) :
    ((x : ℝ) + 1 / 2) / 1024 = (1 / 1024) * (∑ j ∈ range 1024, if j ≤ x then (1 : ℝ) else 0) - 1 / 2 / 1024 := by
  have : (∑ j ∈ range 1024, if j ≤ x then (1 : ℝ) else 0) = (x : ℝ) + 1 := by
    rw [← sum_filter, sum_const, nsmul_eq_mul, mul_one]
    have hf : (range 1024).filter (fun j => j ≤ x) = range (x + 1) := by
      ext i; simp only [mem_filter, mem_range]; omega
    rw [hf, card_range]; push_cast; ring
  rw [this]; ring

/-- One class's loss. -/
theorem loss_eq (hN : 0 < N) (hb : ∀ i, b i < 1024) (hs : ∀ i j, i ≤ j → j < N → b j ≤ b i) :
    (∑ k ∈ range N, (((b k : ℕ) : ℝ) + 1 / 2) / 1024 * (J N l (k + 1) - J N l k))
      = (1 / 1024) * (∑ j ∈ range 1024, (K N b j : ℝ) / max ((K N b j : ℝ) + B N b l j) 1) - 1 / 2 / 1024 := by
  have hJN : (∑ k ∈ range N, (J N l (k + 1) - J N l k)) = 1 := by
    rw [sum_range_sub]
    have h0 : J N l 0 = 0 := by unfold J; simp
    have hNN : (N : ℝ) ≠ 0 := by exact_mod_cast hN.ne'
    rw [h0]; unfold J; rw [sub_self, zero_add, div_self hNN, sub_zero]
  calc (∑ k ∈ range N, (((b k : ℕ) : ℝ) + 1 / 2) / 1024 * (J N l (k + 1) - J N l k))
      = ∑ k ∈ range N, ((1 / 1024) * (∑ j ∈ range 1024, (if j ≤ b k then (1 : ℝ) else 0) * (J N l (k + 1) - J N l k))
          - 1 / 2 / 1024 * (J N l (k + 1) - J N l k)) := by
        refine sum_congr rfl fun k _ => ?_
        rw [mid_eq (hb k), ← sum_mul]; ring
    _ = (1 / 1024) * (∑ j ∈ range 1024, ∑ k ∈ range N, (if j ≤ b k then (1 : ℝ) else 0) * (J N l (k + 1) - J N l k))
          - 1 / 2 / 1024 * ∑ k ∈ range N, (J N l (k + 1) - J N l k) := by
        rw [sum_sub_distrib, ← mul_sum, ← mul_sum, sum_comm]
    _ = _ := by
        rw [hJN, mul_one]
        congr 2
        exact sum_congr rfl fun j _ => sum_above hs j

/-- The Jaccard index as the intersection over the union. -/
theorem J_succ (hl : ∀ i, l i ≤ 1) {k : ℕ} (hk : k < N) :
    1 - (((S l N : ℕ) : ℝ) - S l (k + 1)) / (((S l N : ℕ) : ℝ) + ((k + 1 : ℕ) - S l (k + 1))) = J N l (k + 1) := by
  have hle : S l (k + 1) ≤ S l N := sum_le_sum_of_subset (range_subset_range.mpr (by omega))
  have hle' : ((S l (k + 1) : ℕ) : ℝ) ≤ S l N := by exact_mod_cast hle
  have hpos : (0 : ℝ) < (S l N : ℝ) - S l (k + 1) + ((k + 1 : ℕ) : ℝ) := by
    have : (0 : ℝ) < ((k + 1 : ℕ) : ℝ) := by exact_mod_cast Nat.succ_pos k
    linarith
  unfold J
  rw [show ((S l N : ℕ) : ℝ) + (((k + 1 : ℕ) : ℝ) - S l (k + 1)) = (S l N : ℝ) - S l (k + 1) + ((k + 1 : ℕ) : ℝ) by ring]
  rw [eq_div_iff hpos.ne', sub_mul, div_mul_cancel₀ _ hpos.ne']
  ring

end Cert.Proof.Lovasz
-- ==== Proof.Image.lean ====
/-
  The image: its pixels numbered batch by batch and row by row, the logits and the label of each, and the loss as an
  expression of the bins and labels of all pixels.
-/
module

public import proofs.«01_k».proof.Proof.Pixel
public import proofs.«01_k».proof.Proof.Lovasz
public import Idealize.ShloMosaic.Lib.ValueIdx

@[expose] public section

noncomputable section

namespace Cert.Proof.Image

open Idealize.ShloMosaic Idealize.ShloMosaic.ValueIdx
open Finset

abbrev SX : Shape := ⟨4, ![4, 21, 384, 384]⟩
abbrev SY : Shape := ⟨3, ![4, 384, 384]⟩

variable (x : SX.Idx → EReal) (y : SY.Idx → BitVec 32)

/-- Class `c`'s logit of pixel `i`. -/
def px (i : ℕ) (c : Fin 21) : EReal :=
  x (ix4 (⟨i / 147456 % 4, Nat.mod_lt _ (by decide)⟩ : Fin 4) c (⟨i / 384 % 384, Nat.mod_lt _ (by decide)⟩ : Fin 384)
    (⟨i % 384, Nat.mod_lt _ (by decide)⟩ : Fin 384))
/-- The label of pixel `i`. -/
def lb (i : ℕ) : BitVec 32 :=
  y (ix3 (⟨i / 147456 % 4, Nat.mod_lt _ (by decide)⟩ : Fin 4) (⟨i / 384 % 384, Nat.mod_lt _ (by decide)⟩ : Fin 384)
    (⟨i % 384, Nat.mod_lt _ (by decide)⟩ : Fin 384))
/-- The logits as reals. -/
def lr (i : ℕ) : Fin 21 → ℝ := fun c => (px x i c).toReal
/-- Pixel `i` has label `c`. -/
def isL (c : Fin 21) (i : ℕ) : Bool := decide (lb y i = BitVec.ofNat 32 c.val)
/-- The one-hot label. -/
def hot (c : Fin 21) (i : ℕ) : ℕ := (isL y c i).toNat
/-- The bin of class `c`'s error at pixel `i`. -/
def bn (c : Fin 21) (i : ℕ) : ℕ := Pixel.bin (lr x i) (isL y c i) c

theorem hot_le (c : Fin 21) (i : ℕ) : hot y c i ≤ 1 := by unfold hot; cases isL y c i <;> decide
theorem bn_lt (c : Fin 21) (i : ℕ) : bn x y c i < 1024 := Pixel.bin_lt _ _ _
theorem hot_coe (c : Fin 21) (i : ℕ) : ((hot y c i : ℕ) : ℝ) = bif isL y c i then 1 else 0 := by
  unfold hot; cases isL y c i <;> simp

/-- Every logit is finite. -/
def AllFinite : Prop := ∀ j, x j = ((x j).toReal : EReal)

theorem px_coe {x : SX.Idx → EReal} (hx : AllFinite x) (i : ℕ) (c : Fin 21) : px x i c = (lr x i c : EReal) := hx _

/-- How many pixels there are. -/
abbrev N : ℕ := 589824

/-- The Jaccard index at bin `j` of class `c`. -/
def jac (c : Fin 21) (j : ℕ) : ℝ :=
  (Lovasz.K N (bn x y c) j : ℝ) / max ((Lovasz.K N (bn x y c) j : ℝ) + Lovasz.B N (bn x y c) (hot y c) j) 1

/-- The loss. -/
def loss : ℝ := (∑ c : Fin 21, ((1 / 1024) * (∑ j ∈ range 1024, jac x y c j) - 1 / 2 / 1024)) / 21

theorem loss_eq : loss x y = (∑ c : Fin 21, ∑ j : Fin 1024, jac x y c j) * (21504 : ℝ)⁻¹ - 1 / 2 / 1024 := by
  unfold loss
  rw [sum_sub_distrib, ← mul_sum, sum_const, card_univ, Fintype.card_fin, nsmul_eq_mul]
  simp only [Finset.sum_range]
  push_cast
  ring

end Cert.Proof.Image
-- ==== Proof.BinCount.lean ====
/-
  Counting pixels by bin: over the flat words of the index array and over the pixels of a class, and the counts summed from a
  bin on and up to a bin.
-/
module

public import proofs.«01_k».proof.Proof.Image

@[expose] public section

namespace Cert.Proof.BinCount

open Finset Cert.Proof.Image

/-- The pixels with `h` at `p` and `b` at `j`. -/
def cnt (h b : ℕ → ℕ) (p j : ℕ) : ℕ := ((range N).filter fun i => h i = p ∧ b i = j).card

theorem cnt_le (h b : ℕ → ℕ) (p j : ℕ) : cnt h b p j ≤ N := by
  have := card_le_card (filter_subset (fun i => h i = p ∧ b i = j) (range N))
  rwa [card_range] at this

variable {h b : ℕ → ℕ}

theorem sum_cnt (hb : ∀ i, b i < 1024) (p : ℕ) (g : ℕ → ℝ) :
    (∑ j : Fin 1024, (cnt h b p j.val : ℝ) * g j.val) = ∑ i ∈ range N, if h i = p then g (b i) else 0 := by
  have h1 : ∀ j : ℕ, (cnt h b p j : ℝ) * g j = ∑ i ∈ range N, if h i = p ∧ b i = j then g j else 0 := fun j => by
    unfold cnt
    rw [card_filter, Nat.cast_sum, sum_mul]
    refine sum_congr rfl fun i _ => ?_
    by_cases hc : h i = p ∧ b i = j
    · rw [if_pos hc, if_pos hc, Nat.cast_one, one_mul]
    · rw [if_neg hc, if_neg hc, Nat.cast_zero, zero_mul]
  rw [← Finset.sum_range (fun j => (cnt h b p j : ℝ) * g j), sum_congr rfl fun j _ => h1 j, sum_comm]
  refine sum_congr rfl fun i _ => ?_
  by_cases hp : h i = p
  · rw [if_pos hp, sum_eq_single (b i)]
    · rw [if_pos ⟨hp, rfl⟩]
    · intro j _ hj
      rw [if_neg fun hc => hj hc.2.symm]
    · intro hn
      exact absurd (mem_range.mpr (hb i)) hn
  · rw [if_neg hp]
    exact sum_eq_zero fun j _ => if_neg fun hc => hp hc.1

theorem upper (hb : ∀ i, b i < 1024) (hh : ∀ i, h i ≤ 1) (k : ℕ) :
    (∑ j : Fin 1024, ((cnt h b 0 j.val : ℝ) + (cnt h b 1 j.val : ℝ)) * (if k ≤ j.val then 1 else 0)) = (Lovasz.K N b k : ℝ) := by
  simp only [add_mul]
  rw [sum_add_distrib, sum_cnt hb 0 (fun j => if k ≤ j then 1 else 0), sum_cnt hb 1 (fun j => if k ≤ j then 1 else 0), ← sum_add_distrib]
  unfold Lovasz.K
  rw [card_filter, Nat.cast_sum]
  refine sum_congr rfl fun i _ => ?_
  have := hh i
  by_cases h0 : h i = 0
  · rw [if_pos h0, if_neg (show ¬h i = 1 by omega), add_zero]
    split <;> simp
  · rw [if_neg h0, if_pos (show h i = 1 by omega), zero_add]
    split <;> simp

theorem lower (hb : ∀ i, b i < 1024) (hh : ∀ i, h i ≤ 1) (k : ℕ) :
    (∑ j : Fin 1024, (cnt h b 1 j.val : ℝ) * (if j.val < k then 1 else 0)) = (Lovasz.B N b h k : ℝ) := by
  rw [sum_cnt hb 1 (fun j => if j < k then 1 else 0)]
  unfold Lovasz.B
  rw [sum_filter, Nat.cast_sum]
  refine sum_congr rfl fun i _ => ?_
  have := hh i
  by_cases h0 : h i = 1
  · rw [if_pos h0, h0]
    split <;> simp
  · rw [if_neg h0, show h i = 0 by omega]
    split <;> simp

theorem sum_range_mul {M : Type} [AddCommMonoid M] (g : ℕ → M) (w n : ℕ) :
    ∑ f ∈ range (w * n), g f = ∑ a ∈ range w, ∑ i ∈ range n, g (n * a + i) := by
  induction w with
  | zero => simp
  | succ w ih => rw [Nat.succ_mul, sum_range_add, ih, sum_range_succ, Nat.mul_comm w n]

/-- The words of every task together. -/
theorem card_tasks (p : ℕ → Prop) [DecidablePred p] (w n : ℕ) :
    ∑ a ∈ range w, ((range n).filter fun i => p (n * a + i)).card = ((range (w * n)).filter p).card := by
  simp only [card_filter]
  exact (sum_range_mul (fun f => if p f then 1 else 0) w n).symm

/-- The flat words that name one bin of a class and label are the pixels in it. -/
theorem card_flat (hot bn : ℕ → ℕ → ℕ) (hbn : ∀ c i, bn c i < 1024) (hhot : ∀ c i, hot c i ≤ 1) {p c j : ℕ} (hp : p < 2) (hc : c < 21) (hj : j < 1024) :
    ((range (4 * (21 * 147456))).filter fun f =>
        21504 * hot (f / 147456 % 21) (f / 147456 / 21 * 147456 + f % 147456) + 1024 * (f / 147456 % 21)
          + bn (f / 147456 % 21) (f / 147456 / 21 * 147456 + f % 147456) = p * 21504 + c * 1024 + j).card
      = cnt (hot c) (bn c) p j := by
  have hN : N = 4 * 147456 := by norm_num
  unfold cnt
  rw [card_filter, card_filter, hN, sum_range_mul, sum_range_mul]
  refine sum_congr rfl fun a ha => ?_
  rw [sum_range_mul, sum_eq_single c]
  · refine sum_congr rfl fun i hi => ?_
    have hi := mem_range.mp hi
    have e1 : (21 * 147456 * a + (147456 * c + i)) / 147456 % 21 = c := by omega
    have e2 : (21 * 147456 * a + (147456 * c + i)) / 147456 / 21 * 147456 + (21 * 147456 * a + (147456 * c + i)) % 147456 = 147456 * a + i := by omega
    rw [e1, e2]
    have hb := hbn c (147456 * a + i)
    have hh := hhot c (147456 * a + i)
    refine if_congr ⟨fun he => ⟨by omega, by omega⟩, fun he => ?_⟩ rfl rfl
    rw [he.1, he.2]
    omega
  · intro c' hc' hne
    have hc' := mem_range.mp hc'
    refine sum_eq_zero fun i hi => ?_
    have hi := mem_range.mp hi
    have e1 : (21 * 147456 * a + (147456 * c' + i)) / 147456 % 21 = c' := by omega
    have e2 : (21 * 147456 * a + (147456 * c' + i)) / 147456 / 21 * 147456 + (21 * 147456 * a + (147456 * c' + i)) % 147456 = 147456 * a + i := by omega
    rw [e1, e2]
    have hb := hbn c' (147456 * a + i)
    have hh := hhot c' (147456 * a + i)
    exact if_neg fun he => hne (by omega)
  · intro hn
    exact absurd (mem_range.mpr hc) hn

end Cert.Proof.BinCount
-- ==== Proof.WholeTile.lean ====
/-
  One vector subcore's task of the histogram kernel, as a statement about values.

  The task of the subcore at grid position `L` owns the words `base L … base L + 387071` of the index array. It zeroes
  its 43008 counters, fetches its words in 84 chunks of 4608 through two buffers in turn, adds every group of sixteen
  words into the counters by a masked indexed addition of the group's duplicate counts, and writes the counters out to
  its row of the result. The invariant all the way: after `n` words the counter at bin `k` holds the number of the first
  `n` words that name bin `k` (`tally`).
-/
module

public import proofs.«01_k».proof.Defs
public import proofs.«01_k».proof.Proof.Count
public import Idealize.ShloMosaic.Lib.SparseCore.Quiescent
public import Idealize.ShloMosaic.Lib.SparseCore.Ops
public import Idealize.ShloMosaic.Lib.SparseCore.FromWhole
public import Idealize.ShloMosaic.Lib.StableHlo.Run
public import Idealize.ShloMosaic.Lib.Pipeline.Kit
public import Idealize.ShloMosaic.Lib.Transfers
public import Idealize.ShloMosaic.Lib.Tactic
public import proofs.«01_k».proof.Proof.Gen.LossIdeal
public import proofs.«01_k».proof.Proof.Gen.LossIdeal.Skeleton

@[expose] public section

noncomputable section

namespace Cert.Proof.Whole

open Cert.LossIdeal Cert.LossIdeal.Gen

open Idealize.ShloMosaic
open Idealize.ShloMosaic.ValueIdx Idealize.ShloMosaic.Routing
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds and the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipelines' rounds, in the machine's algebra. -/
def EP : Emb UP (MT nD τ sig (HIx 1) (Elt F) ℕ UU ℕ) := (Emb.inl : Emb UP (UP × Counters)).trans embR

instance : (EP (F := F)).LandsIn (upEmb : UEmb _ (MT nD τ sig (HIx 1) (Elt F) ℕ UU ℕ)) := by unfold EP; infer_instance

/-! ## The buffers of a task -/

variable [FloatOps F] [Named F]

/-- The index array, the result, the two chunk buffers and the counters, as a task addresses them. -/
local notation "iW" => (Memref.whole Cert.LossIdeal.main_v3_scv : Memref Cert.LossIdeal.sig Kind.scVector Space.hbm Cert.LossIdeal.S12386304 EltTy.i32)
local notation "oW" => (Memref.whole Cert.LossIdeal.main_v4_scv : Memref Cert.LossIdeal.sig Kind.scVector Space.hbm Cert.LossIdeal.S32x43008 EltTy.i32)
local notation "b0W" => (Memref.whole Cert.LossIdeal.cc1_scratch0 : Memref Cert.LossIdeal.sig Kind.scVector Space.vmem Cert.LossIdeal.S4608 EltTy.i32)
local notation "b1W" => (Memref.whole Cert.LossIdeal.cc1_scratch1 : Memref Cert.LossIdeal.sig Kind.scVector Space.vmem Cert.LossIdeal.S4608 EltTy.i32)
local notation "hW" => (Memref.whole Cert.LossIdeal.cc1_scratch2 : Memref Cert.LossIdeal.sig Kind.scVector Space.vmem Cert.LossIdeal.S43008 EltTy.i32)

variable (d : Dev nD) (L : grid1.Coords)

abbrev cV : Fin τ.nSC := (L 0).castLE hcore1
abbrev jV : Fin τ.nSub := (L 1).castLE hsub1
/-- The thread that runs the task. -/
abbrev thr : Thread nD τ := V d (cV L) (jV L)

/-- The first of the task's words in the index array. -/
def base (L : grid1.Coords) : ℕ := 774144 * (L 1).val + 387072 * (L 0).val

theorem base_le : base L + 387072 ≤ 12386304 := by
  have h0 : (L 0).val < 2 := (L 0).isLt
  have h1 : (L 1).val < 16 := (L 1).isLt
  unfold base; omega

/-- The `n`-th word of the index array (zero past its end). -/
def word (x : IVec S12386304 32) (n : ℕ) : BitVec 32 := if h : n < 12386304 then x (ix1 ⟨n, h⟩) else 0#32

/-- The `n`-th word of the task. -/
def words (x : IVec S12386304 32) (L : grid1.Coords) (n : ℕ) : BitVec 32 := word x (base L + n)

/-! ## Reading and writing sixteen lanes -/

theorem trips1 : k1_t1_loop.trips = 2688 := by decide
theorem trips2 : k1_t2_loop.trips = 42 := by decide
theorem trips3 : k1_t3_loop.trips = 288 := by decide
theorem trips4 : k1_t4_loop.trips = 288 := by decide

/-- The counters held whole, as the indexed addition addresses them. -/
theorem pts_hW (h : IVec S43008 32) :
    (((hW).access (.whole S43008)).loc (thr d L) ↦[((hW).access (.whole S43008)).set]{fullShare} h : sProp 𝕄)
      = ((hW).view.loc (thr d L) ↦{fullShare} h) := by
  rw [show ((hW).access (.whole S43008)).set = Finset.univ from Memref.set_access_whole (cc1_scratch2 : Ref sig .scVector)]

/-- Sixteen words stored at an offset of the counters replace them there. -/
theorem store16 (h : IVec S43008 32) (w : IVec S16 32) (off : Fin 1 → ℕ) (inb : ∀ a, off a + S16.size a ≤ S43008.size a) :
    (hW).view.writes (Elt F) h [⟨Rect.unit (s := S43008) off S16.size inb, w⟩] = updateSlice (s := S43008) (u := S16) h w off ⟨rfl, inb⟩ :=
  View.write_whole_slice_unit (Val := Elt F) cc1_scratch2 off S16.size inb h w

/-- Sixteen words loaded at an offset of a chunk buffer. -/
theorem load16_b0 (b : IVec S4608 32) (off : Fin 1 → ℕ) (inb : ∀ a, off a + S16.size a ≤ S4608.size a) (l : Fin 16)
    (hl : off 0 + l.val < 4608) :
    (b0W).view.readAt (Elt F) (Rect.unit (s := S4608) off S16.size inb).toLoadRect b (ix1 l) = b (ix1 ⟨off 0 + l.val, hl⟩) := by
  show b _ = _
  refine congrArg b ?_
  funext a
  obtain rfl : a = (0 : Fin 1) := Subsingleton.elim (α := Fin 1) _ _
  apply Fin.ext
  show off 0 + 1 * l.val = off 0 + l.val
  omega

theorem load16_b1 (b : IVec S4608 32) (off : Fin 1 → ℕ) (inb : ∀ a, off a + S16.size a ≤ S4608.size a) (l : Fin 16)
    (hl : off 0 + l.val < 4608) :
    (b1W).view.readAt (Elt F) (Rect.unit (s := S4608) off S16.size inb).toLoadRect b (ix1 l) = b (ix1 ⟨off 0 + l.val, hl⟩) := by
  show b _ = _
  refine congrArg b ?_
  funext a
  obtain rfl : a = (0 : Fin 1) := Subsingleton.elim (α := Fin 1) _ _
  apply Fin.ext
  show off 0 + 1 * l.val = off 0 + l.val
  omega

/-- One group's masked indexed addition: `v` holds the `n`-th word and the fifteen after it, and the counters count one
    group more. -/
theorem group_counts (wd : ℕ → BitVec 32) (n : ℕ) (h : IVec S43008 32) (hh : ∀ j, h j = tally wd n (j 0).val)
    (v : IVec S16 32) (hv : ∀ l : Fin 16, v (ix1 l) = wd (n + l.val)) (hidx) (j : S43008.Idx) :
    storeIdx (F := F) (e := .i32) (s := S43008) h ![v] (scanCount (broadcast S16 1#1) v).2 (scanCount (broadcast S16 1#1) v).1 true hidx j
      = tally wd (n + 16) (j 0).val := by
  rw [tally_add, ← hh j]
  refine (storeIdx_scanCount (F := F) (N := 43008) (n := 16) h v hidx j).trans ?_
  congr 2
  refine Finset.card_bij (fun l _ => l.val) ?_ ?_ ?_
  · intro l hl
    simp only [Finset.mem_filter, Finset.mem_range, Finset.mem_univ, true_and] at hl ⊢
    exact ⟨l.isLt, by rw [← hv l]; exact hl⟩
  · intro l _ l' _ e; exact Fin.ext e
  · intro i hi
    simp only [Finset.mem_filter, Finset.mem_range] at hi
    refine ⟨⟨i, hi.1⟩, ?_, rfl⟩
    simp only [Finset.mem_filter, Finset.mem_univ, true_and]
    rw [hv ⟨i, hi.1⟩]; exact hi.2

/-! ## The zeroing loop -/

/-- Before trip `k` the counters below `16 * k` are zero. -/
def zeroInv (k : ℕ) (_ : Unit) : sProp 𝕄 :=
  iprop(∃ h : IVec S43008 32, ⌜∀ j, (j 0).val < 16 * k → h j = 0#32⌝ ∗ ((hW).view.loc (thr d L) ↦{fullShare} h))

theorem zero_trip (k : Fin k1_t1_loop.trips) (acc : Unit) :
    (zeroInv d L k.val acc : sProp 𝕄)
      ⊢ wp frame (wpE (defs₀ (F := F)) 𝒱₀ (thr d L) none) Set.univ
          (k1_t1_body L iW (Memref.isWhole_whole _) oW (Memref.isWhole_whole _) b0W (Memref.isWhole_whole _)
            b1W (Memref.isWhole_whole _) hW (Memref.isWhole_whole _) cc1_scratch3 cc1_scratch4 cc1_scoped0 k acc)
          (zeroInv d L (k.val + 1)) := by
  unfold zeroInv k1_t1_body
  iintro ⟨%h, %hh, H⟩
  sl_exec
  sl_step
  iexists _
  isplitr
  rotate_left
  · iexact H
  · ipureintro
    intro j hj
    rw [store16]
    unfold updateSlice
    split
    · rfl
    · next hout =>
      refine hh j ?_
      by_contra hge
      refine hout fun a => ?_
      obtain rfl : a = 0 := Subsingleton.elim _ _
      have h0 : k1_off1 k 0 = 16 * k.val := by rw [k1_off1_eq]; rfl
      show k1_off1 k 0 ≤ (j 0).val ∧ (j 0).val < k1_off1 k 0 + 16
      rw [h0]
      show 16 * k.val ≤ (j 0).val ∧ (j 0).val < 16 * k.val + 16
      omega

/-! ## The counting loops -/

/-- Before group `k` of a chunk whose first word is the task's `n`-th: the chunk's buffer holds it, and the counters
    have counted the words before the group. -/
def scanInv0 (wd : ℕ → BitVec 32) (n : ℕ) (b : IVec S4608 32) (k : ℕ) (_ : Unit) : sProp 𝕄 :=
  iprop(((b0W).view.loc (thr d L) ↦{fullShare} b)
    ∗ ∃ h : IVec S43008 32, ⌜∀ j, h j = tally wd (n + 16 * k) (j 0).val⌝ ∗ ((hW).view.loc (thr d L) ↦{fullShare} h))

theorem scan_trip0 (wd : ℕ → BitVec 32) (hwd : ∀ n, (wd n).toNat < 43008) (n : ℕ) (b : IVec S4608 32)
    (hb : ∀ j, b j = wd (n + (j 0).val)) (k : Fin k1_t3_loop.trips) (acc : Unit) :
    (scanInv0 d L wd n b k.val acc : sProp 𝕄)
      ⊢ wp frame (wpE (defs₀ (F := F)) 𝒱₀ (thr d L) none) Set.univ
          (k1_t3_body L iW (Memref.isWhole_whole _) oW (Memref.isWhole_whole _) b0W (Memref.isWhole_whole _)
            b1W (Memref.isWhole_whole _) hW (Memref.isWhole_whole _) cc1_scratch3 cc1_scratch4 cc1_scoped0 k acc)
          (scanInv0 d L wd n b (k.val + 1)) := by
  unfold scanInv0 k1_t3_body
  iintro ⟨Hb, %h, %hh, H⟩
  sl_exec
  have hv : ∀ l : Fin 16, (b0W).view.readAt (Elt F) (Rect.unit (s := S4608) (k1_off4 k) S16.size (k1_off4_inb k)).toLoadRect b (ix1 l)
      = wd (n + 16 * k.val + l.val) := by
    intro l
    have hk : k.val < 288 := lt_of_lt_of_eq k.isLt trips3
    have h0 : k1_off4 k 0 = 16 * k.val := by rw [k1_off4_eq]; rfl
    rw [load16_b0 b _ _ l (by have := l.isLt; omega), hb]
    refine congrArg wd ?_
    show n + (k1_off4 k 0 + l.val) = _
    omega
  have hchk : k1_chk1 ((b0W).view.readAt (Elt F) (Rect.unit (s := S4608) (k1_off4 k) S16.size (k1_off4_inb k)).toLoadRect b) := by
    intro a x
    obtain rfl : a = 0 := Subsingleton.elim _ _
    obtain ⟨l, rfl⟩ : ∃ l : Fin 16, x = ix1 l := ⟨x 0, eq_ix1 x⟩
    show BitVec.toNat (View.readAt (Elt F) (b0W).view (Rect.unit (s := S4608) (k1_off4 k) S16.size (k1_off4_inb k)).toLoadRect b (ix1 l)) < 43008
    rw [hv]; exact hwd _
  rw [wp_assume_of _ _ _ _ hchk]
  ihave H' := (Entails.of_eq (pts_hW (F := F) d L _).symm) $$ H
  iapply (SparseCore.wp_vectorStoreIdx 𝒱₀ (thr d L) none Set.univ (base := hW)) $$ H'; iintro H'
  ihave H := (Entails.of_eq (pts_hW (F := F) d L _)) $$ H'
  sl_exec
  sl_step
  isplitl [Hb]; · iexact Hb
  iexists _
  isplitr
  rotate_left
  · iexact H
  · ipureintro
    intro j
    refine (congrFun (Memref.write_access_whole_univ (Elt F) cc1_scratch2 h _) j).trans ?_
    rw [Memref.read_access_whole]
    exact group_counts wd (n + 16 * k.val) h hh _ hv _ j

/-- The same for a chunk in the other buffer. -/
def scanInv1 (wd : ℕ → BitVec 32) (n : ℕ) (b : IVec S4608 32) (k : ℕ) (_ : Unit) : sProp 𝕄 :=
  iprop(((b1W).view.loc (thr d L) ↦{fullShare} b)
    ∗ ∃ h : IVec S43008 32, ⌜∀ j, h j = tally wd (n + 16 * k) (j 0).val⌝ ∗ ((hW).view.loc (thr d L) ↦{fullShare} h))

theorem scan_trip1 (wd : ℕ → BitVec 32) (hwd : ∀ n, (wd n).toNat < 43008) (n : ℕ) (b : IVec S4608 32)
    (hb : ∀ j, b j = wd (n + (j 0).val)) (k : Fin k1_t4_loop.trips) (acc : Unit) :
    (scanInv1 d L wd n b k.val acc : sProp 𝕄)
      ⊢ wp frame (wpE (defs₀ (F := F)) 𝒱₀ (thr d L) none) Set.univ
          (k1_t4_body L iW (Memref.isWhole_whole _) oW (Memref.isWhole_whole _) b0W (Memref.isWhole_whole _)
            b1W (Memref.isWhole_whole _) hW (Memref.isWhole_whole _) cc1_scratch3 cc1_scratch4 cc1_scoped0 k acc)
          (scanInv1 d L wd n b (k.val + 1)) := by
  unfold scanInv1 k1_t4_body
  iintro ⟨Hb, %h, %hh, H⟩
  sl_exec
  have hv : ∀ l : Fin 16, (b1W).view.readAt (Elt F) (Rect.unit (s := S4608) (k1_off6 k) S16.size (k1_off6_inb k)).toLoadRect b (ix1 l)
      = wd (n + 16 * k.val + l.val) := by
    intro l
    have hk : k.val < 288 := lt_of_lt_of_eq k.isLt trips4
    have h0 : k1_off6 k 0 = 16 * k.val := by rw [k1_off6_eq]; rfl
    rw [load16_b1 b _ _ l (by have := l.isLt; omega), hb]
    refine congrArg wd ?_
    show n + (k1_off6 k 0 + l.val) = _
    omega
  have hchk : k1_chk2 ((b1W).view.readAt (Elt F) (Rect.unit (s := S4608) (k1_off6 k) S16.size (k1_off6_inb k)).toLoadRect b) := by
    intro a x
    obtain rfl : a = 0 := Subsingleton.elim _ _
    obtain ⟨l, rfl⟩ : ∃ l : Fin 16, x = ix1 l := ⟨x 0, eq_ix1 x⟩
    show BitVec.toNat (View.readAt (Elt F) (b1W).view (Rect.unit (s := S4608) (k1_off6 k) S16.size (k1_off6_inb k)).toLoadRect b (ix1 l)) < 43008
    rw [hv]; exact hwd _
  rw [wp_assume_of _ _ _ _ hchk]
  ihave H' := (Entails.of_eq (pts_hW (F := F) d L _).symm) $$ H
  iapply (SparseCore.wp_vectorStoreIdx 𝒱₀ (thr d L) none Set.univ (base := hW)) $$ H'; iintro H'
  ihave H := (Entails.of_eq (pts_hW (F := F) d L _)) $$ H'
  sl_exec
  sl_step
  isplitl [Hb]; · iexact Hb
  iexists _
  isplitr
  rotate_left
  · iexact H
  · ipureintro
    intro j
    refine (congrFun (Memref.write_access_whole_univ (Elt F) cc1_scratch2 h _) j).trans ?_
    rw [Memref.read_access_whole]
    exact group_counts wd (n + 16 * k.val) h hh _ hv _ j

/-! ## The chunk transfers -/

/-- The transfers' counters, in the machine's algebra. -/
abbrev EC : UEmb Counters 𝕄 := countersEmb

/-- What the transfer of a chunk into a buffer credits its semaphore with. -/
abbrev NC : ℕ := (b0W).view.dmaCredit

theorem NC_pos : 0 < NC := View.dmaCredit_pos _ (by decide)

/-- What the fetch of the chunk that starts at the task's `n`-th word delivers: the chunk, and the share of the index
    array it read by. -/
def chunk0 (fI : IVec S12386304 32) (q : PosShare TreeShare) (n : ℕ) : sProp 𝕄 :=
  iprop((∃ b : IVec S4608 32, ⌜∀ j, b j = words fI L (n + (j 0).val)⌝ ∗ ((b0W).view.loc (thr d L) ↦{fullShare} b))
    ∗ ((iW).view.loc (thr d L) ↦{q} fI))
def chunk1 (fI : IVec S12386304 32) (q : PosShare TreeShare) (n : ℕ) : sProp 𝕄 :=
  iprop((∃ b : IVec S4608 32, ⌜∀ j, b j = words fI L (n + (j 0).val)⌝ ∗ ((b1W).view.loc (thr d L) ↦{fullShare} b))
    ∗ ((iW).view.loc (thr d L) ↦{q} fI))

/-- A chunk read at an offset of the index array is the task's words there. -/
theorem read_chunk (fI : IVec S12386304 32) (off : Fin 1 → ℕ) (inb : ∀ a, off a + S4608.size a ≤ S12386304.size a) (n : ℕ)
    (hoff : off 0 = base L + n) (j : S4608.Idx) :
    (ReadAs.same : ReadAs (Elt F) S4608 .i32 S4608 .i32).apply
      (((iW).slice (Rect.unit (s := S12386304) off S4608.size inb) (fun _ => rfl)).view.read (Elt F) fI) j = words fI L (n + (j 0).val) := by
  have h0 := inb 0
  have hj : (j 0).val < 4608 := (j 0).isLt
  have hlt : base L + (n + (j 0).val) < 12386304 := by
    have : off 0 + 4608 ≤ 12386304 := h0
    omega
  unfold words word
  rw [dif_pos hlt]
  show fI _ = fI _
  refine congrArg fI ?_
  funext a
  obtain rfl : a = (0 : Fin 1) := Subsingleton.elim (α := Fin 1) _ _
  apply Fin.ext
  show off 0 + 1 * (j 0).val = base L + (n + (j 0).val)
  omega

/-- The issue of a chunk's fetch into buffer 0. -/
theorem issue0 (fI : IVec S12386304 32) (q : PosShare TreeShare) (n : ℕ) (off : Fin 1 → ℕ)
    (inb : ∀ a, off a + S4608.size a ≤ S12386304.size a) (hoff : off 0 = base L + n) (fd : IVec S4608 32)
    {h₁ h₂ h₃} {k : PUnit → Prog (TpuEff nD τ sig (Elt F) Λ₀ (thr d L).2) Unit} {Q : Unit → sProp 𝕄} :
    iprop(((iW).view.loc (thr d L) ↦{q} fI) ∗ ((b0W).view.loc (thr d L) ↦{fullShare} fd) ∗ semVal (thr d L, SemLoc.dma cc1_scratch3.sem) 0)
      ⊢ iprop((Transfers.Flight EC (thr d L) (SemLoc.dma cc1_scratch3.sem) (none : HIx 1) NC (chunk0 d L fI q n)
            -∗ wp frame (wpE (defs₀ (F := F)) 𝒱₀ (thr d L) none) Set.univ (k ⟨⟩) Q)
          -∗ wp frame (wpE (defs₀ (F := F)) 𝒱₀ (thr d L) none) Set.univ
              (.op (.enqueueDma ((iW).slice (Rect.unit (s := S12386304) off S4608.size inb) (fun _ => rfl)) (.here b0W) (SemLoc.dma cc1_scratch3.sem) h₁ h₂ h₃) k) Q) := by
  iintro ⟨HI, Hb, Hs⟩ Hk
  iapply (Transfers.wp_dmaFromWhole EC 𝒱₀ (thr d L) none (none : HIx 1) NC rfl NC_pos (Finset.subset_univ _)
    (dst := b0W) (src := (iW).slice (Rect.unit (s := S12386304) off S4608.size inb) (fun _ => rfl)) (fs := fI) (fd := fd) (q := q)) $$ [HI Hb Hs]
  · iframe HI Hb Hs
  iintro Hfl
  iapply Hk
  iapply (Transfers.Flight_mono EC (thr d L) (D' := chunk0 d L fI q n) ?_) $$ Hfl
  unfold chunk0
  iintro ⟨Hb, HI⟩
  isplitl [Hb]
  · iexists _
    isplitr
    rotate_left
    · iexact Hb
    · ipureintro
      intro j
      refine (congrFun (View.write_whole_univ (Val := Elt F) cc1_scratch0 fd _) j).trans ?_
      exact read_chunk L fI off inb n hoff j
  · iexact HI

/-- The issue of a chunk's fetch into buffer 1. -/
theorem issue1 (fI : IVec S12386304 32) (q : PosShare TreeShare) (n : ℕ) (off : Fin 1 → ℕ)
    (inb : ∀ a, off a + S4608.size a ≤ S12386304.size a) (hoff : off 0 = base L + n) (fd : IVec S4608 32)
    {h₁ h₂ h₃} {k : PUnit → Prog (TpuEff nD τ sig (Elt F) Λ₀ (thr d L).2) Unit} {Q : Unit → sProp 𝕄} :
    iprop(((iW).view.loc (thr d L) ↦{q} fI) ∗ ((b1W).view.loc (thr d L) ↦{fullShare} fd) ∗ semVal (thr d L, SemLoc.dma cc1_scratch4.sem) 0)
      ⊢ iprop((Transfers.Flight EC (thr d L) (SemLoc.dma cc1_scratch4.sem) (none : HIx 1) NC (chunk1 d L fI q n)
            -∗ wp frame (wpE (defs₀ (F := F)) 𝒱₀ (thr d L) none) Set.univ (k ⟨⟩) Q)
          -∗ wp frame (wpE (defs₀ (F := F)) 𝒱₀ (thr d L) none) Set.univ
              (.op (.enqueueDma ((iW).slice (Rect.unit (s := S12386304) off S4608.size inb) (fun _ => rfl)) (.here b1W) (SemLoc.dma cc1_scratch4.sem) h₁ h₂ h₃) k) Q) := by
  iintro ⟨HI, Hb, Hs⟩ Hk
  iapply (Transfers.wp_dmaFromWhole EC 𝒱₀ (thr d L) none (none : HIx 1) NC rfl NC_pos (Finset.subset_univ _)
    (dst := b1W) (src := (iW).slice (Rect.unit (s := S12386304) off S4608.size inb) (fun _ => rfl)) (fs := fI) (fd := fd) (q := q)) $$ [HI Hb Hs]
  · iframe HI Hb Hs
  iintro Hfl
  iapply Hk
  iapply (Transfers.Flight_mono EC (thr d L) (D' := chunk1 d L fI q n) ?_) $$ Hfl
  unfold chunk1
  iintro ⟨Hb, HI⟩
  isplitl [Hb]
  · iexists _
    isplitr
    rotate_left
    · iexact Hb
    · ipureintro
      intro j
      refine (congrFun (View.write_whole_univ (Val := Elt F) cc1_scratch1 fd _) j).trans ?_
      exact read_chunk L fI off inb n hoff j
  · iexact HI

/-! ## The loop over pairs of chunks -/

theorem cond1_iff (k : Fin k1_t2_loop.trips) : k1_cond1 k = 1#1 ↔ k.val + 1 < 42 := by
  revert k; decide

/-- Before pair `k`: the fetch of the pair's first chunk in flight or, past the last pair, its buffer, its share of the
    index array and its semaphore back. -/
def slot0 (fI : IVec S12386304 32) (q : PosShare TreeShare) (k : ℕ) : sProp 𝕄 :=
  if k < 42 then Transfers.Flight EC (thr d L) (SemLoc.dma cc1_scratch3.sem) (none : HIx 1) NC (chunk0 d L fI q (9216 * k))
  else iprop((∃ b : IVec S4608 32, (b0W).view.loc (thr d L) ↦{fullShare} b) ∗ ((iW).view.loc (thr d L) ↦{q} fI)
    ∗ semVal (thr d L, SemLoc.dma cc1_scratch3.sem) 0)

theorem slot0_lt (fI : IVec S12386304 32) (q : PosShare TreeShare) {k : ℕ} (hk : k < 42) :
    (slot0 d L fI q k : sProp 𝕄)
      = Transfers.Flight EC (thr d L) (SemLoc.dma cc1_scratch3.sem) (none : HIx 1) NC (chunk0 d L fI q (9216 * k)) := by
  unfold slot0; exact if_pos hk

theorem slot0_ge (fI : IVec S12386304 32) (q : PosShare TreeShare) {k : ℕ} (hk : ¬ k < 42) :
    (slot0 d L fI q k : sProp 𝕄)
      = iprop((∃ b : IVec S4608 32, (b0W).view.loc (thr d L) ↦{fullShare} b) ∗ ((iW).view.loc (thr d L) ↦{q} fI)
        ∗ semVal (thr d L, SemLoc.dma cc1_scratch3.sem) 0) := by
  unfold slot0; exact if_neg hk

/-- Before pair `k` the counters have counted the words of the pairs before it. -/
def pairInv (fI : IVec S12386304 32) (q₀ q₁ : PosShare TreeShare) (O : CellTallies nD τ sig (HIx 1)) (W : Waits sig (HIx 1))
    (k : ℕ) (_ : Unit) : sProp 𝕄 :=
  iprop(Transfers.MayWaits (thr d L) (none : HIx 1) O
    ∗ slot0 d L fI q₀ k
    ∗ (∃ b : IVec S4608 32, (b1W).view.loc (thr d L) ↦{fullShare} b)
    ∗ ((iW).view.loc (thr d L) ↦{q₁} fI)
    ∗ semVal (thr d L, SemLoc.dma cc1_scratch4.sem) 0
    ∗ (∃ h : IVec S43008 32, ⌜∀ j, h j = tally (words fI L) (9216 * k) (j 0).val⌝ ∗ ((hW).view.loc (thr d L) ↦{fullShare} h))
    ∗ ∃ W', ⌜∀ p ∈ W', p ∈ W ∨ p.2 = none⌝ ∗ owes (thr d L) O W')

theorem waits_insert {W W' : Waits sig (HIx 1)} (hsub : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact .inr rfl
  · exact hsub p hp

theorem NC_b1 : (b1W).view.dmaCredit = NC := by
  unfold NC View.dmaCredit
  rfl

/-- The second half of a pair: its second chunk arrives and is counted. -/
theorem pair_tail (fI : IVec S12386304 32) (hfI : ∀ n, (words fI L n).toNat < 43008) (q₀ q₁ : PosShare TreeShare)
    (O : CellTallies nD τ sig (HIx 1)) (W : Waits sig (HIx 1)) (k : Fin k1_t2_loop.trips) (W' : Waits sig (HIx 1))
    (hW' : ∀ p ∈ W', p ∈ W ∨ p.2 = none) (h : IVec S43008 32)
    (hh : ∀ j, h j = tally (words fI L) (9216 * k.val + 4608) (j 0).val)
    {r h₀ h₁ h₂} :
    iprop(Transfers.MayWaits (thr d L) (none : HIx 1) O
        ∗ slot0 d L fI q₀ (k.val + 1)
        ∗ Transfers.Flight EC (thr d L) (SemLoc.dma cc1_scratch4.sem) (none : HIx 1) NC (chunk1 d L fI q₁ (9216 * k.val + 4608))
        ∗ ((hW).view.loc (thr d L) ↦{fullShare} h)
        ∗ owes (thr d L) O W')
      ⊢ wp frame (wpE (defs₀ (F := F)) 𝒱₀ (thr d L) none) Set.univ
          (Prog.op (TpuEff.waitDma2 (SemArray.sem cc1_scratch4) ((iW).slice (Rect.unit (s := S12386304) ![0] S4608.size r) h₀) b1W h₁ h₂)
            fun _ => (k1_t4_loop.for k1_t4_ok PUnit.unit
              (k1_t4_body L iW (Memref.isWhole_whole _) oW (Memref.isWhole_whole _) b0W (Memref.isWhole_whole _)
                b1W (Memref.isWhole_whole _) hW (Memref.isWhole_whole _) cc1_scratch3 cc1_scratch4 cc1_scoped0)) >>= fun _ => Prog.ret PUnit.unit)
          (pairInv d L fI q₀ q₁ O W (k.val + 1)) := by
  unfold pairInv
  iintro ⟨#Hmw, H0, H1, Hh, HO⟩
  iapply (Transfers.wp_waitLocalO EC 𝒱₀ (thr d L) none (none : HIx 1) (N := NC) NC_b1) $$ [H1 HO]
  · isplitl [H1]; · iexact H1
    isplitl [HO]; · iexact HO
    iapply (Transfers.MayWaits.elim (SemLoc.dma cc1_scratch4.sem)) $$ Hmw
  iintro ⟨H1, Hs1, HO⟩
  unfold chunk1
  icases H1 with ⟨⟨%b1, %hb1, Hb1⟩, HI1⟩
  sl_for (scanInv1 d L (words fI L) (9216 * k.val + 4608) b1) $$ [Hb1 Hh]
  case region =>
    exact scan_trip1 d L (words fI L) hfI (9216 * k.val + 4608) b1 (fun j => by rw [hb1 j])
  · unfold scanInv1
    isplitl [Hb1]; · iexact Hb1
    iexists h
    isplitr
    · ipureintro; exact hh
    · iexact Hh
  iintro %_ HI
  unfold scanInv1
  icases HI with ⟨Hb1, %h', %hh', Hh⟩
  have hn : 9216 * k.val + 4608 + 16 * Scf.trips k1_t4_loop.lb k1_t4_loop.ub k1_t4_loop.st = 9216 * (k.val + 1) := by
    have := trips4
    unfold Scf.Loop.trips at this
    rw [this]; omega
  rw [hn] at hh'
  sl_exec
  sl_step
  isplitr; · iexact Hmw
  isplitl [H0]; · iexact H0
  isplitl [Hb1]; · iexists b1; iexact Hb1
  isplitl [HI1]; · iexact HI1
  isplitl [Hs1]; · iexact Hs1
  isplitl [Hh]
  · iexists h'
    isplitr
    · ipureintro; exact hh'
    · iexact Hh
  iexists _
  isplitr
  rotate_left
  · iexact HO
  · ipureintro; exact waits_insert hW' _

theorem pair_trip (fI : IVec S12386304 32) (hfI : ∀ n, (words fI L n).toNat < 43008) (q₀ q₁ : PosShare TreeShare)
    (O : CellTallies nD τ sig (HIx 1)) (W : Waits sig (HIx 1)) (k : Fin k1_t2_loop.trips) (acc : Unit) :
    (pairInv d L fI q₀ q₁ O W k.val acc : sProp 𝕄)
      ⊢ wp frame (wpE (defs₀ (F := F)) 𝒱₀ (thr d L) none) Set.univ
          (k1_t2_body L iW (Memref.isWhole_whole _) oW (Memref.isWhole_whole _) b0W (Memref.isWhole_whole _)
            b1W (Memref.isWhole_whole _) hW (Memref.isWhole_whole _) cc1_scratch3 cc1_scratch4 cc1_scoped0 k acc)
          (pairInv d L fI q₀ q₁ O W (k.val + 1)) := by
  have hk : k.val < 42 := lt_of_lt_of_eq k.isLt trips2
  unfold pairInv k1_t2_body
  simp only [Prog.lift, Prog.bind_op, Prog.bind_ret, Prog.pure_eq_ret]
  iintro ⟨#Hmw, H0, ⟨%b1, Hb1⟩, HI1, Hs1, ⟨%h, %hh, Hh⟩, %W', %hW', HO⟩
  ihave H0 := (Entails.of_eq (slot0_lt (F := F) d L fI q₀ hk)) $$ H0
  -- the second chunk's fetch starts
  iapply (issue1 d L fI q₁ (9216 * k.val + 4608) (k1_off3 L k) (k1_off3_inb L k)
    (by rw [k1_off3_eq]; show _ + 4608 = _; unfold base; omega) b1) $$ [HI1 Hb1 Hs1]
  · iframe HI1 Hb1 Hs1
  iintro H1
  -- the first chunk has arrived
  iapply (Transfers.wp_waitLocalO EC 𝒱₀ (thr d L) none (none : HIx 1) (N := NC) rfl) $$ [H0 HO]
  · isplitl [H0]; · iexact H0
    isplitl [HO]; · iexact HO
    iapply (Transfers.MayWaits.elim (SemLoc.dma cc1_scratch3.sem)) $$ Hmw
  iintro ⟨H0, Hs0, HO⟩
  unfold chunk0
  icases H0 with ⟨⟨%b0, %hb0, Hb0⟩, HI0⟩
  -- its words are counted
  sl_for (scanInv0 d L (words fI L) (9216 * k.val) b0) $$ [Hb0 Hh]
  case region =>
    exact scan_trip0 d L (words fI L) hfI (9216 * k.val) b0 hb0
  · unfold scanInv0
    isplitl [Hb0]; · iexact Hb0
    iexists h
    isplitr
    · ipureintro; exact hh
    · iexact Hh
  iintro %_ HI
  unfold scanInv0
  icases HI with ⟨Hb0, %h', %hh', Hh⟩
  have hn : 9216 * k.val + 16 * Scf.trips k1_t3_loop.lb k1_t3_loop.ub k1_t3_loop.st = 9216 * k.val + 4608 := by
    have := trips3
    unfold Scf.Loop.trips at this
    rw [this]
  rw [hn] at hh'
  unfold pair_trip.sl.prog.cont_1
  simp only [Prog.lift, Prog.bind_op, Prog.bind_ret, Prog.pure_eq_ret]
  have hnext : 9216 * (k.val + 1) = 9216 * k.val + 4608 + 4608 := by omega
  have hW2 := waits_insert hW' (SemLoc.dma cc1_scratch3.sem)
  by_cases hc : k1_cond1 k = 1#1
  · -- the next pair's first chunk starts
    have hlt : k.val + 1 < 42 := (cond1_iff k).mp hc
    rw [dif_pos hc]
    iapply (issue0 d L fI q₀ (9216 * (k.val + 1)) (k1_off5 L k) (k1_off5_inb L k hc)
      (by rw [k1_off5_eq]; show _ + 9216 = _; unfold base; omega) b0) $$ [HI0 Hb0 Hs0]
    · iframe HI0 Hb0 Hs0
    iintro H0
    iapply (pair_tail d L fI hfI q₀ q₁ O W k _ hW2 h' hh')
    isplitr; · iexact Hmw
    isplitl [H0]
    · rw [slot0_lt d L fI q₀ hlt]; iexact H0
    isplitl [H1]; · iexact H1
    isplitl [Hh]; · iexact Hh
    iexact HO
  · have hge : ¬ k.val + 1 < 42 := fun h => hc ((cond1_iff k).mpr h)
    rw [dif_neg hc]
    iapply (pair_tail d L fI hfI q₀ q₁ O W k _ hW2 h' hh')
    isplitr; · iexact Hmw
    isplitl [HI0 Hb0 Hs0]
    · rw [slot0_ge d L fI q₀ hge]
      isplitl [Hb0]; · iexists b0; iexact Hb0
      isplitl [HI0]; · iexact HI0
      iexact Hs0
    isplitl [H1]; · iexact H1
    isplitl [Hh]; · iexact Hh
    iexact HO

end Cert.Proof.Whole

end
-- ==== Proof.WholeTask.lean ====
/-
  The whole of one vector subcore's task: its counters zeroed, its words counted, its row of the result written. Started
  with two shares of the index array and its row of the result, the task ends with the shares back and the row holding
  the number of its words that name each bin.
-/
module

public import proofs.«01_k».proof.Proof.WholeTile
public import Idealize.ShloMosaic.Lib.ValueLayout

@[expose] public section

noncomputable section

namespace Cert.Proof.Whole

open Cert.LossIdeal Cert.LossIdeal.Gen

open Idealize.ShloMosaic
open Idealize.ShloMosaic.ValueIdx Idealize.ShloMosaic.Routing
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "iW" => (Memref.whole Cert.LossIdeal.main_v3_scv : Memref Cert.LossIdeal.sig Kind.scVector Space.hbm Cert.LossIdeal.S12386304 EltTy.i32)
local notation "oW" => (Memref.whole Cert.LossIdeal.main_v4_scv : Memref Cert.LossIdeal.sig Kind.scVector Space.hbm Cert.LossIdeal.S32x43008 EltTy.i32)
local notation "b0W" => (Memref.whole Cert.LossIdeal.cc1_scratch0 : Memref Cert.LossIdeal.sig Kind.scVector Space.vmem Cert.LossIdeal.S4608 EltTy.i32)
local notation "b1W" => (Memref.whole Cert.LossIdeal.cc1_scratch1 : Memref Cert.LossIdeal.sig Kind.scVector Space.vmem Cert.LossIdeal.S4608 EltTy.i32)
local notation "hW" => (Memref.whole Cert.LossIdeal.cc1_scratch2 : Memref Cert.LossIdeal.sig Kind.scVector Space.vmem Cert.LossIdeal.S43008 EltTy.i32)

variable (d : Dev nD) (L : grid1.Coords)

/-- The task's row of the result. -/
def wid (L : grid1.Coords) : ℕ := 2 * (L 1).val + (L 0).val

theorem wid_lt : wid L < 32 := by
  have h0 : (L 0).val < 2 := (L 0).isLt
  have h1 : (L 1).val < 16 := (L 1).isLt
  unfold wid; omega

theorem base_eq : base L = 387072 * wid L := by unfold base wid; omega

/-- The histograms: row `w` counts the words `387072 * w … 387072 * w + 387071` of the index array, bin by bin. -/
def histArr (x : IVec S12386304 32) : IVec S32x43008 32 :=
  fun j => tally (fun n => word x (387072 * (j 0).val + n)) 387072 (j 1).val

/-- The elements of row `w` of the result. -/
def outSet (w : ℕ) : Finset S32x43008.Idx := Finset.univ.filter fun j => (j 0).val = w

/-- The row as the task writes it. -/
abbrev oRow : Memref sig .scVector .hbm S43008 .i32 :=
  ((oW).slice (Rect.unit (s := S32x43008) (k1_off7 L) S1x43008.size (k1_off7_inb L)) (fun _ => rfl)).squeeze S43008 squeezes_S1x43008_S43008

theorem oRow_emb (x : Fin 43008) : (oRow L).view.emb (ix1 x) = (ix2 (⟨wid L, wid_lt L⟩ : Fin 32) x : S32x43008.Idx) := by
  have hr : Shape.reshapeEquiv (squeezes_S1x43008_S43008.numel_eq) (ix1 x : S43008.Idx) = (ix2 (0 : Fin 1) x : S1x43008.Idx) :=
    Shape.reshapeEquiv_eq_of_rowMajor _ (by
      rw [Shape.rowMajor_val_two, Shape.rowMajor_val_one]
      show 0 * 43008 + x.val = x.val
      omega)
  show (Rect.unit (s := S32x43008) (k1_off7 L) S1x43008.size (k1_off7_inb L)).emb (Shape.reshapeEquiv (squeezes_S1x43008_S43008.numel_eq) (ix1 x : S43008.Idx)) = _
  rw [hr]
  funext a
  apply Fin.ext
  have h7 := k1_off7_eq L
  have h70 : k1_off7 L 0 = wid L := by rw [h7]; rfl
  have h71 : k1_off7 L 1 = 0 := by rw [h7]; rfl
  fin_cases a
  · show k1_off7 L 0 + 1 * 0 = wid L
    omega
  · show k1_off7 L 1 + 1 * x.val = x.val
    omega

theorem oRow_emb0 (x : S43008.Idx) : ((oRow L).view.emb x 0).val = wid L := by
  obtain ⟨y, rfl⟩ : ∃ y : Fin 43008, x = (ix1 y : S43008.Idx) := ⟨x 0, eq_ix1 x⟩
  exact congrArg (fun i : S32x43008.Idx => (i 0).val) (oRow_emb L y)

theorem oRow_emb1 (x : S43008.Idx) : ((oRow L).view.emb x 1).val = (x 0).val := by
  obtain ⟨y, rfl⟩ : ∃ y : Fin 43008, x = (ix1 y : S43008.Idx) := ⟨x 0, eq_ix1 x⟩
  exact congrArg (fun i : S32x43008.Idx => (i 1).val) (oRow_emb L y)

theorem oRow_set : (oRow L).view.set = outSet (wid L) := by
  ext j
  unfold View.set outSet
  rw [Finset.mem_map, Finset.mem_filter]
  constructor
  · rintro ⟨x, -, rfl⟩
    exact ⟨Finset.mem_univ _, oRow_emb0 L x⟩
  · rintro ⟨-, hj⟩
    refine ⟨(ix1 (j 1) : S43008.Idx), Finset.mem_univ _, ?_⟩
    funext a
    apply Fin.ext
    match a with
    | ⟨0, _⟩ => exact (oRow_emb0 L _).trans hj.symm
    | ⟨1, _⟩ => exact oRow_emb1 L _

/-- What the write-out leaves on the task's row is the row of the histograms. -/
theorem row_written (fI : IVec S12386304 32) (fd : IVec S32x43008 32) (h : IVec S43008 32)
    (hh : ∀ j, h j = tally (words fI L) 387072 (j 0).val) :
    ∀ i ∈ (oRow L).view.set, (oRow L).view.write (Elt F) fd
      ((ReadAs.same : ReadAs (Elt F) S43008 .i32 S43008 .i32).apply ((hW).view.read (Elt F) h)) Finset.univ i = histArr fI i := by
  intro i hi
  obtain ⟨x, -, rfl⟩ := Finset.mem_map.mp hi
  rw [View.write_emb_of_mem _ _ (Finset.mem_univ _)]
  show h x = tally (fun n => word fI (387072 * ((oRow L).view.emb x 0).val + n)) 387072 ((oRow L).view.emb x 1).val
  rw [oRow_emb0, oRow_emb1, hh]
  unfold words
  rw [base_eq]

/-! ## The cells and the scratch buffers of the task's thread -/

abbrev cell3 : GSem nD τ sig := (thr d L, SemLoc.dma cc1_scratch3.sem)
abbrev cell4 : GSem nD τ sig := (thr d L, SemLoc.dma cc1_scratch4.sem)
abbrev cellR : GSem nD τ sig := (thr d L, SemLoc.dma cc1_scoped0.sem)

omit [FloatOps F] [Named F] in
/-- The task's three semaphores are among its thread's own. -/
theorem ownSems0_V :
    (ownSems0 (thr d L) : sProp 𝕄)
      = iprop(semVal (cell3 d L) 0 ∗ semVal (cell4 d L) 0 ∗ semVal (cellR d L) 0
          ∗ bigSep ((((ownCells (thr d L)).erase (cell3 d L)).erase (cell4 d L)).erase (cellR d L)) fun g => semVal g 0) := by
  unfold SparseCore.Cfg.ownSems0
  rw [SparseCore.bigSep_erase' ((mem_ownCells (g := cell3 d L)).mpr ⟨rfl, by
      show (SemLoc.dma cc1_scratch3.sem : SemLoc sig).isScoped .scVector = true; decide⟩),
    SparseCore.bigSep_erase' (Finset.mem_erase.mpr ⟨by simp [cell3, cell4]; decide, (mem_ownCells (g := cell4 d L)).mpr ⟨rfl, by
      show (SemLoc.dma cc1_scratch4.sem : SemLoc sig).isScoped .scVector = true; decide⟩⟩),
    SparseCore.bigSep_erase' (Finset.mem_erase.mpr ⟨by simp [cell4, cellR]; decide, Finset.mem_erase.mpr ⟨by simp [cell3, cellR]; decide,
      (mem_ownCells (g := cellR d L)).mpr ⟨rfl, by show (SemLoc.dma cc1_scoped0.sem : SemLoc sig).isScoped .scVector = true; decide⟩⟩⟩)]

omit [FloatOps F] [Named F] in
/-- The task's three scratch buffers are among its subcore's own: they are them, at some contents, and the rest. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The task -/

/-- The index array and the result, as arrays of device `d`. -/
abbrev iLoc (d : Dev nD) : Loc nD τ sig := (SparseCore.T d).loc main_v3
abbrev oLoc (d : Dev nD) : Loc nD τ sig := (SparseCore.T d).loc main_v4

omit [FloatOps F] [Named F] in
theorem pts_oRow (f : IVec S32x43008 32) :
    ((oRow L).view.loc (thr d L) ↦[(oRow L).view.set]{fullShare} f : sProp 𝕄) = oLoc d ↦[outSet (wid L)]{fullShare} f := by
  rw [oRow_set]

theorem NR_pos : 0 < (oRow L).view.dmaCredit := View.dmaCredit_pos _ (by decide)

/-- The task from two shares of the index array and its row of the result to the shares back and the row counted. -/
theorem tile_body (hF : (K (F := F)).Facts) (fI : IVec S12386304 32) (hfI : ∀ n, (words fI L n).toNat < 43008)
    (q₀ q₁ : PosShare TreeShare) (fo : IVec S32x43008 32)
    (O : CellTallies nD τ sig (HIx 1)) (W : Waits sig (HIx 1)) (hO : ∀ g, O g none = 0) :
    iprop((levAts (K (F := F)).L (K (F := F)).lev : sProp 𝕄)
        ∗ ((iLoc d ↦{q₀} fI) ∗ (iLoc d ↦{q₁} fI) ∗ (oLoc d ↦[outSet (wid L)]{fullShare} fo))
        ∗ scopedBufs (thr d L) ∗ scopedSems0 (thr d L) ∗ owes (thr d L) O W)
      ⊢ wp frame (wpE (defs₀ (F := F)) 𝒱₀ (thr d L) none) Set.univ
          (cc1__hist_body L iW (Memref.isWhole_whole _) oW (Memref.isWhole_whole _) b0W (Memref.isWhole_whole _)
            b1W (Memref.isWhole_whole _) hW (Memref.isWhole_whole _) cc1_scratch3 cc1_scratch4 cc1_scoped0)
          fun _ => iprop(((iLoc d ↦{q₀} fI) ∗ (iLoc d ↦{q₁} fI) ∗ (oLoc d ↦[outSet (wid L)]{fullShare} histArr fI))
            ∗ scopedBufs (thr d L) ∗ scopedSems0 (thr d L)
            ∗ ∃ W', ⌜∀ p ∈ W', p ∈ W ∨ p.2 = none⌝ ∗ owes (thr d L) O W') := by
  simp only [cc1__hist_body_eq_skeleton]; unfold cc1__hist_body_skel
  rw [(K (F := F)).scopedBufs_V hF d (cV L) (jV L), SparseCore.Cfg.scopedSems0_V (Val := Elt F) d (cV L) (jV L), ownSems0_V, ownBufs_V]
  iintro ⟨#Hlv, ⟨HI0, HI1, Ho⟩, ⟨⟨%f0, Hb0⟩, ⟨%f1, Hb1⟩, ⟨%fh, Hh⟩, Hbufs⟩, ⟨Hs3, Hs4, HsR, Hsems⟩, HO⟩
  ihave #Hmw := ((K (F := F)).mayWaits_none (thr := thr d L) hO) $$ Hlv
  -- the counters are zeroed
  sl_for (zeroInv d L) $$ [Hh]
  case region =>
    exact zero_trip d L
  · unfold zeroInv
    iexists fh
    isplitr
    · ipureintro; intro j hj; exact absurd hj (Nat.not_lt_zero _)
    · iexact Hh
  iintro %_ HI
  unfold zeroInv
  icases HI with ⟨%h0, %hh0, Hh⟩
  have h0z : ∀ j, h0 j = 0#32 := fun j => hh0 j (by
    have ht : Scf.trips k1_t1_loop.lb k1_t1_loop.ub k1_t1_loop.st = 2688 := trips1
    have hj : (j 0).val < 43008 := (j 0).isLt
    rw [ht]; omega)
  unfold tile_body.sl.prog.cont_1
  simp only [Prog.lift, Prog.bind_op, Prog.bind_ret, Prog.pure_eq_ret]
  -- the first chunk's fetch starts
  iapply (issue0 d L fI q₀ (9216 * 0) (k1_off2 L) (k1_off2_inb L)
    (by rw [k1_off2_eq]; rfl) f0) $$ [HI0 Hb0 Hs3]
  · isplitl [HI0]; · iexact HI0
    isplitl [Hb0]; · iexact Hb0
    iexact Hs3
  iintro H0
  -- the pairs of chunks
  sl_for (pairInv d L fI q₀ q₁ O W) $$ [H0 Hb1 HI1 Hs4 Hh HO]
  case region =>
    exact pair_trip d L fI hfI q₀ q₁ O W
  · unfold pairInv
    isplitr; · iexact Hmw
    isplitl [H0]
    · rw [slot0_lt d L fI q₀ (show 0 < 42 by decide)]; iexact H0
    isplitl [Hb1]; · iexists f1; iexact Hb1
    isplitl [HI1]; · iexact HI1
    isplitl [Hs4]; · iexact Hs4
    isplitl [Hh]
    · iexists h0
      isplitr
      · ipureintro; intro j; rw [h0z j, Nat.mul_zero, tally_zero]
      · iexact Hh
    iexists W
    isplitr
    · ipureintro; exact fun p hp => .inl hp
    · iexact HO
  iintro %_ HI
  unfold pairInv
  have ht2 : Scf.trips k1_t2_loop.lb k1_t2_loop.ub k1_t2_loop.st = 42 := trips2
  rw [ht2, slot0_ge d L fI q₀ (show ¬ 42 < 42 by decide)]
  icases HI with ⟨-, ⟨⟨%b0, Hb0⟩, HI0, Hs3⟩, ⟨%b1, Hb1⟩, HI1, Hs4, ⟨%h, %hh, Hh⟩, %W₁, %hW₁, HO⟩
  unfold tile_body.sl.prog.cont_2
  simp only [Prog.lift, Prog.bind_op, Prog.bind_ret, Prog.pure_eq_ret]
  rw [show 9216 * 42 = 387072 from rfl] at hh
  -- the counters are written out
  ihave Ho := (Entails.of_eq (pts_oRow (F := F) d L fo).symm) $$ Ho
  iapply (Transfers.wp_dmaFromWhole EC 𝒱₀ (thr d L) none (none : HIx 1) (oRow L).view.dmaCredit rfl (NR_pos L) (Finset.Subset.refl _)
    (dst := oRow L) (src := hW) (fs := h) (fd := fo) (q := fullShare)) $$ [Hh Ho HsR]
  · isplitl [Hh]; · iexact Hh
    isplitl [Ho]; · iexact Ho
    iexact HsR
  iintro HR
  iapply (Transfers.wp_waitLocalO EC 𝒱₀ (thr d L) none (none : HIx 1) (N := (oRow L).view.dmaCredit) rfl) $$ [HR HO]
  · isplitl [HR]; · iexact HR
    isplitl [HO]; · iexact HO
    iapply (Transfers.MayWaits.elim (SemLoc.dma cc1_scoped0.sem)) $$ Hmw
  iintro ⟨⟨Ho, Hh⟩, HsR, HO⟩
  ihave Ho := (Entails.of_eq ((pointsTo_congr (row_written (F := F) L fI fo h hh)).trans (pts_oRow (F := F) d L (histArr fI)))) $$ Ho
  rw [wp_ret]; imodintro
  isplitl [HI0 HI1 Ho]
  · isplitl [HI0]; · iexact HI0
    isplitl [HI1]; · iexact HI1
    iexact Ho
  isplitl [Hb0 Hb1 Hh Hbufs]
  · isplitl [Hb0]; · iexists b0; iexact Hb0
    isplitl [Hb1]; · iexists b1; iexact Hb1
    isplitl [Hh]; · iexists h; iexact Hh
    iexact Hbufs
  isplitl [Hs3 Hs4 HsR Hsems]
  · isplitl [Hs3]; · iexact Hs3
    isplitl [Hs4]; · iexact Hs4
    isplitl [HsR]; · iexact HsR
    iexact Hsems
  iexists _
  isplitr
  rotate_left
  · iexact HO
  · ipureintro; exact waits_insert hW₁ _

end Cert.Proof.Whole

end
-- ==== Proof.WholeBodies.lean ====
/-
  The two TensorCore kernels' bodies: from the operands' staging buffers at given blocks each runs to its return, leaving in
  the result's staging buffer a value of the blocks alone.
-/
module

public import proofs.«01_k».proof.Proof.WholeTile
public import proofs.«01_k».proof.Proof.Gen.LossIdeal.Skeleton
public import Idealize.ShloMosaic.Lib.VecWindow

@[expose] public section

noncomputable section

namespace Cert.Proof.Whole

open Cert.LossIdeal Cert.LossIdeal.Gen

open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe

variable {F : FTy → Type} [FloatOps F] [Named F] [∀ e, Nonempty (Elt F e)]

local notation "𝕄" => MT nD τ sig (HIx 1) (Elt F) ℕ UU ℕ

/-! ## The binning body -/

/-- The binning body leaves the word of every pixel and class of the two blocks. -/
theorem bin_run (c : Dev nD) (i : grid0.Coords) (M0 : Memref sig .tc .vmem S1x21x9216 .f32) (h0 : M0.IsWhole)
    (M1 : Memref sig .tc .vmem S1x1x9216 .i32) (h1 : M1.IsWhole) (M2 : Memref sig .tc .vmem S1x21x9216 .i32) (h2 : M2.IsWhole)
    (d0 : Vec F S1x21x9216 .f32) (d1 : Vec F S1x1x9216 .i32) (d2 : Vec F S1x21x9216 .i32) (Q : PUnit → sProp 𝕄) :
    iprop(owns (c : Thread nD τ) M0 fullShare d0 ∗ owns (c : Thread nD τ) M1 fullShare d1 ∗ owns (c : Thread nD τ) M2 fullShare d2
        ∗ (iprop(owns (c : Thread nD τ) M0 fullShare d0 ∗ owns (c : Thread nD τ) M1 fullShare d1
            ∗ owns (c : Thread nD τ) M2 fullShare (k0_pay1 (F := F) d0 d1)) -∗ Q ⟨⟩))
      ⊢ wp frame (wpE (defs₀ (F := F)) Variants.none c none) Set.univ (cc0__binning_body i M0 h0 M1 h1 M2 h2) Q := by
  simp only [cc0__binning_body_eq_skeleton]; unfold cc0__binning_body_skel
  unfold owns
  iintro ⟨⟨%f0, %e0, H0⟩, ⟨%f1, %e1, H1⟩, ⟨%f2, -, H2⟩, Hk⟩
  sl_exec
  sl_step
  iapply Hk
  isplitl [H0]
  · iexists _; isplitr; swap; · iexact H0
    ipureintro; exact e0
  isplitl [H1]
  · iexists _; isplitr; swap; · iexact H1
    ipureintro; exact e1
  iexists _; isplitr; swap; · iexact H2
  ipureintro
  rw [View.read_writes_full]
  rw [View.readAt_full, View.readAt_full, e0, e1]

/-! ## The loss body -/

/-- The histogram of task `n`, as the loss body loads it. -/
def slab (x : Vec F S32x2x21x1024 .i32) (n : ℕ) (h : n < 32 := by decide) : Vec F S1x2x21x1024 .i32 := fun j => x (ix4 ⟨n, h⟩ (j 1) (j 2) (j 3))

theorem window_slab (x : Vec F S32x2x21x1024 .i32) (n : ℕ) (inb : ∀ a, (![n, 0, 0, 0] : Fin 4 → ℕ) a + S1x2x21x1024.size a ≤ S32x2x21x1024.size a) :
    VecWindow.window (s := S32x2x21x1024) x ![n, 0, 0, 0] S1x2x21x1024.size inb = slab (F := F) x n (by have := inb 0; change n + 1 ≤ 32 at this; omega) := by
  funext j
  unfold slab VecWindow.window
  refine congrArg x (funext fun a => Fin.ext ?_)
  have hj : (j 0).val = 0 := by have h : (j 0).val < 1 := (j 0).isLt; omega
  fin_cases a
  · show n + 1 * (j 0).val = n; omega
  · show 0 + 1 * (j 1).val = (j 1).val; omega
  · show 0 + 1 * (j 2).val = (j 2).val; omega
  · show 0 + 1 * (j 3).val = (j 3).val; omega

/-- The histograms of the first eight tasks summed, of the first seventeen, of the first twenty-five, -/
def sum8 (x : Vec F S32x2x21x1024 .i32) : IVec S2x21x1024 32 :=
  k2_pay2 (F := F) (slab x 0) (slab x 1) (slab x 2) (slab x 3) (slab x 4) (slab x 5) (slab x 6) (slab x 7)
def sum17 (x : Vec F S32x2x21x1024 .i32) : IVec S2x21x1024 32 :=
  k2_pay3 (F := F) (sum8 x) (slab x 8) (slab x 9) (slab x 10) (slab x 11) (slab x 12) (slab x 13) (slab x 14) (slab x 15) (slab x 16)
def sum25 (x : Vec F S32x2x21x1024 .i32) : IVec S2x21x1024 32 :=
  k2_pay4 (F := F) (sum17 x) (slab x 17) (slab x 18) (slab x 19) (slab x 20) (slab x 21) (slab x 22) (slab x 23) (slab x 24)

/-- what the last part makes of them, -/
def tops (x : Vec F S32x2x21x1024 .i32) : FVec F S21x1024 .f32 :=
  k2_pay7 (F := F) (sum25 x) (k2_pay5 (F := F) (slab x 25)) (slab x 26) (slab x 27) (slab x 28) (slab x 29) (slab x 30) (slab x 31)
def tails (x : Vec F S32x2x21x1024 .i32) : FVec F S21x1024 .f32 :=
  k2_pay9 (F := F) (sum25 x) (k2_pay5 (F := F) (slab x 25)) (slab x 26) (slab x 27) (slab x 28) (slab x 29) (slab x 30) (slab x 31)

/-- and the loss the body leaves. -/
def lossOut (x : Vec F S32x2x21x1024 .i32) : Vec F S1x1 .f32 := k2_pay1 (F := F) (tops x) (k2_pay8 (F := F)) (tails x)

section Parts

variable (c : Dev nD) (M0 : Memref sig .tc .vmem S32x2x21x1024 .i32) (h0 : M0.IsWhole) (M1 : Memref sig .tc .vmem S1x1 .f32) (h1 : M1.IsWhole)
  (d0 : Vec F S32x2x21x1024 .i32)

include d0 in
theorem load_slab (f0 : M0.view.ty.Contents (Elt F)) (e0 : M0.view.read (Elt F) f0 = d0) (n : ℕ)
    (inb : ∀ a, (![n, 0, 0, 0] : Fin 4 → ℕ) a + (![1, 2, 21, 1024] : Fin 4 → ℕ) a ≤ S32x2x21x1024.size a) :
    (View.readAt (Elt F) M0.view (Rect.unit (s := S32x2x21x1024) ![n, 0, 0, 0] ![1, 2, 21, 1024] inb).toLoadRect f0 : Vec F S1x2x21x1024 .i32)
      = slab (F := F) d0 n (by have := inb 0; change n + 1 ≤ 32 at this; omega) := by
  rw [← window_slab d0 n inb, ← e0]; rfl

theorem part1_run (Q : (Σ' (_ : IVec S2x21x1024 32), Vec F S1x2x21x1024 .i32) → sProp 𝕄) :
    iprop(owns (c : Thread nD τ) M0 fullShare d0 ∗ (owns (c : Thread nD τ) M0 fullShare d0 -∗ Q ⟨sum8 (F := F) d0, slab d0 8⟩))
      ⊢ wp frame (wpE (defs₀ (F := F)) Variants.none c none) Set.univ (k2_part1 M0 h0 M1 h1) Q := by
  simp only [k2_part1_eq_skeleton]; unfold k2_part1_skel sum8
  unfold owns
  iintro ⟨⟨%f0, %e0, H0⟩, Hk⟩
  sl_exec
  sl_step
  simp only [load_slab M0 d0 f0 e0]
  iapply Hk
  iexists _; isplitr; swap; · iexact H0
  ipureintro; exact e0

theorem part2_run (Q : IVec S2x21x1024 32 → sProp 𝕄) :
    iprop(owns (c : Thread nD τ) M0 fullShare d0 ∗ (owns (c : Thread nD τ) M0 fullShare d0 -∗ Q (sum17 (F := F) d0)))
      ⊢ wp frame (wpE (defs₀ (F := F)) Variants.none c none) Set.univ (k2_part2 M0 h0 M1 h1 (sum8 (F := F) d0) (slab d0 8)) Q := by
  simp only [k2_part2_eq_skeleton]; unfold k2_part2_skel sum17
  unfold owns
  iintro ⟨⟨%f0, %e0, H0⟩, Hk⟩
  sl_exec
  sl_step
  simp only [load_slab M0 d0 f0 e0]
  iapply Hk
  iexists _; isplitr; swap; · iexact H0
  ipureintro; exact e0

theorem part3_run (Q : (Σ' (_ : IVec S2x21x1024 32), IVec S2x21x1024 32) → sProp 𝕄) :
    iprop(owns (c : Thread nD τ) M0 fullShare d0 ∗ (owns (c : Thread nD τ) M0 fullShare d0 -∗ Q ⟨sum25 (F := F) d0, k2_pay5 (F := F) (slab d0 25)⟩))
      ⊢ wp frame (wpE (defs₀ (F := F)) Variants.none c none) Set.univ (k2_part3 M0 h0 M1 h1 (sum17 (F := F) d0)) Q := by
  simp only [k2_part3_eq_skeleton]; unfold k2_part3_skel sum25
  unfold owns
  iintro ⟨⟨%f0, %e0, H0⟩, Hk⟩
  sl_exec
  sl_step
  simp only [load_slab M0 d0 f0 e0]
  iapply Hk
  iexists _; isplitr; swap; · iexact H0
  ipureintro; exact e0

theorem part4_run (Q : (Σ' (_ : FVec F S21x1024 .f32) (_ : FVec F S1024x1024 .f32), FVec F S21x1024 .f32) → sProp 𝕄) :
    iprop(owns (c : Thread nD τ) M0 fullShare d0 ∗ (owns (c : Thread nD τ) M0 fullShare d0 -∗ Q ⟨tops (F := F) d0, k2_pay8 (F := F), tails (F := F) d0⟩))
      ⊢ wp frame (wpE (defs₀ (F := F)) Variants.none c none) Set.univ
          (k2_part4 M0 h0 M1 h1 (sum25 (F := F) d0) (k2_pay5 (F := F) (slab d0 25))) Q := by
  simp only [k2_part4_eq_skeleton]; unfold k2_part4_skel tops tails
  unfold owns
  iintro ⟨⟨%f0, %e0, H0⟩, Hk⟩
  sl_exec
  sl_step
  simp only [load_slab M0 d0 f0 e0]
  iapply Hk
  iexists _; isplitr; swap; · iexact H0
  ipureintro; exact e0

/-- The loss body leaves the loss of the histograms. -/
theorem loss_run (d1 : Vec F S1x1 .f32) (Q : PUnit → sProp 𝕄) :
    iprop(owns (c : Thread nD τ) M0 fullShare d0 ∗ owns (c : Thread nD τ) M1 fullShare d1
        ∗ (iprop(owns (c : Thread nD τ) M0 fullShare d0 ∗ owns (c : Thread nD τ) M1 fullShare (lossOut (F := F) d0)) -∗ Q ⟨⟩))
      ⊢ wp frame (wpE (defs₀ (F := F)) Variants.none c none) Set.univ (cc2__loss_body M0 h0 M1 h1) Q := by
  simp only [cc2__loss_body_eq_skeleton]; unfold cc2__loss_body_skel
  iintro ⟨H0, H1, Hk⟩
  simp only [wp_bind]
  iapply (part1_run c M0 h0 M1 h1 d0 _); isplitl [H0]; · iexact H0
  iintro H0
  iapply (part2_run c M0 h0 M1 h1 d0 _); isplitl [H0]; · iexact H0
  iintro H0
  iapply (part3_run c M0 h0 M1 h1 d0 _); isplitl [H0]; · iexact H0
  iintro H0
  iapply (part4_run c M0 h0 M1 h1 d0 _); isplitl [H0]; · iexact H0
  iintro H0
  unfold owns
  icases H1 with ⟨%f1, -, H1⟩
  sl_exec
  sl_step
  iapply Hk
  isplitl [H0]; · iexact H0
  iexists _; isplitr; swap; · iexact H1
  ipureintro
  rw [View.read_writes_full]
  rfl

end Parts

end Cert.Proof.Whole

end
-- ==== Proof.WholeRegion.lean ====
/-
  The two TensorCore kernels as regions of the program: each entered from every unscoped buffer at a valuation, left at the
  valuation with the kernel's result replaced by what its body leaves block by block; what the core owes the SparseCores
  rides along.
-/
module

public import proofs.«01_k».proof.Proof.WholeBodies
public import proofs.«01_k».proof.Proof.Gen.LossIdeal.Launch
public import proofs.«01_k».proof.Proof.Gen.LossIdeal.Points
public import Idealize.ShloMosaic.Lib.Pipeline.RegionArrays
public import Idealize.ShloMosaic.Lib.Pipeline.RegionArraysS
public import Idealize.ShloMosaic.Lib.Pipeline.FrameTail

@[expose] public section

noncomputable section

namespace Cert.Proof.Whole

open Cert.LossIdeal Cert.LossIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe
open Idealize.ShloMosaic.Rounds
open Idealize.ShloMosaic.Pipeline (Dat Cfg BodyObligation)

variable {F : FTy → Type} [FloatOps F] [Named F] [∀ e, Nonempty (Elt F e)]

local notation "𝕄" => MT nD τ sig (HIx 1) (Elt F) ℕ UU ℕ

variable (W : Dev nD → Valuation τ sig (Elt F)) (n : ℕ)

/-- The pairs a TensorCore may have recorded before call `n`. -/
abbrev recs (c : Dev nD) : Set (SemLoc sig × HIx 1) := {p | (K (F := F)).lev (T c, p.1) p.2 ≤ 8 * n}

/-- What a TensorCore owes before call `n`, its recorded pairs bounded. -/
abbrev oweSt (c : Dev nD) : sProp 𝕄 :=
  iprop(∃ Wd, ⌜(K (F := F)).WBelow (T c) Wd (8 * n)⌝ ∗ owes (T c) ((K (F := F)).Otc c n) Wd)

/-! ## The proof data -/

/-- An operand's block at a point, as the fetch stages it. -/
abbrev blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))
abbrev blk2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

def dat0 (c : Dev nD) : Dat τ (Elt F) (HIx 1) ℕ UU ℕ cfg0 c where
  A w := W c (Proc.devRef .tc (Pipeline.arrRef spec0 w))
  after w t := match w with
    | ⟨0, _⟩ => blk0 W c 0 t
    | ⟨1, _⟩ => blk0 W c 1 t
    | ⟨2, _⟩ => k0_pay1 (F := F) (blk0 W c 0 t) (blk0 W c 1 t)
  Φ _ := Pipeline.scopedRest spec0 c
  q _ := fullShare
  owed _ := (K (F := F)).Otc c n
  recorded _ := recs (F := F) n c

def dat2 (c : Dev nD) : Dat τ (Elt F) (HIx 1) ℕ UU ℕ cfg2 c where
  A w := W c (Proc.devRef .tc (Pipeline.arrRef spec2 w))
  after w t := match w with
    | ⟨0, _⟩ => blk2 W c 0 t
    | ⟨1, _⟩ => lossOut (F := F) (blk2 W c 0 t)
  Φ _ := Pipeline.scopedRest spec2 c
  q _ := fullShare
  owed _ := (K (F := F)).Otc c n
  recorded _ := recs (F := F) n c

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => fun c => dat0 W n c
  | ⟨1, _⟩ => fun c => dat2 W n c

theorem before0_0 (c : Dev nD) (t : Fin cfg0.N) (d) : (dat0 W n c).before 0 t d = blk0 W c 0 t := by
  unfold Dat.before; rw [if_pos (fetch0_0 t)]; rfl
theorem before0_1 (c : Dev nD) (t : Fin cfg0.N) (d) : (dat0 W n c).before 1 t d = blk0 W c 1 t := by
  unfold Dat.before; rw [if_pos (fetch0_1 t)]; rfl
theorem before2_0 (c : Dev nD) (t : Fin cfg2.N) (d) : (dat2 W n c).before 0 t d = blk2 W c 0 t := by
  unfold Dat.before; rw [if_pos (fetch2_0 t)]; rfl

theorem defs₀_row0 (t : Fin cfg0.N) : defs₀ (F := F) .tc cfg0.body (cfg0.bodyArgs t (cfg0.slots t)) = bodyAt0 t := rfl
theorem defs₀_row2 (t : Fin cfg2.N) : defs₀ (F := F) .tc cfg2.body (cfg2.bodyArgs t (cfg2.slots t)) = bodyAt2 t := rfl

set_option backward.isDefEq.respectTransparency.types false in
theorem body0 (c : Dev nD) : BodyObligation (dat0 (F := F) W n c) (defs₀ (F := F)) 𝒱₀ none Set.univ := fun t => by
  rw [bigSep_W0, bigSep_W0, defs₀_row0]
  dsimp only
  simp only [before0_0, before0_1]
  rw [show (dat0 W n c).Φ t.succ = (dat0 W n c).Φ t.castSucc from rfl,
    show (dat0 W n c).owesAt none t.succ = (dat0 W n c).owesAt none t.castSucc from rfl]
  iintro ⟨HΦ, HO, ⟨%d0, H0⟩, ⟨%d1, H1⟩, ⟨%d2, H2⟩⟩
  iapply (bin_run (F := F) c (grid0.coords t) _ _ _ _ _ _ (blk0 W c 0 t) (blk0 W c 1 t) _ _)
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

set_option backward.isDefEq.respectTransparency.types false in
theorem body2 (c : Dev nD) : BodyObligation (dat2 (F := F) W n c) (defs₀ (F := F)) 𝒱₀ none Set.univ := fun t => by
  rw [bigSep_W2, bigSep_W2, defs₀_row2]
  dsimp only
  simp only [before2_0]
  rw [show (dat2 W n c).Φ t.succ = (dat2 W n c).Φ t.castSucc from rfl,
    show (dat2 W n c).owesAt none t.succ = (dat2 W n c).owesAt none t.castSucc from rfl]
  iintro ⟨HΦ, HO, ⟨%d0, H0⟩, ⟨%d1, H1⟩⟩
  iapply (loss_run (F := F) c _ _ _ _ (blk2 W c 0 t) _ _)
  isplitl [H0]; · iexact H0
  isplitl [H1]; · iexact H1
  iintro ⟨H0, H1⟩
  isplitl [HΦ]; · iexact HΦ
  isplitl [HO]; · iexact HO
  isplitl [H0]; · iexact H0
  iexact H1

theorem body (p : Fin 2) (c : Dev nD) : BodyObligation (pdats (F := F) W n p c) (defs₀ (F := F)) 𝒱₀ none Set.univ :=
  match p with
  | 0 => body0 W n c
  | 1 => body2 W n c

theorem kit (p : Fin 2) : Pipeline.LaunchFacts (nD := nD) (τ := τ) cfgs p :=
  match p with
  | 0 => launch0
  | 1 => launch2

/-! ## The regions -/

/-- The buffers after pipeline `p`'s region. -/
def post (p : Fin 2) (c : Dev nD) : Valuation τ sig (Elt F) := Pipeline.afterRegion (pdats W n p c) (W c)

/-- What the core holds at a region's boundary: every unscoped buffer, and what it owes. -/
abbrev st (n : ℕ) (X : Valuation τ sig (Elt F)) (c : Dev nD) : sProp 𝕄 :=
  iprop(unscopedBufs c (fun b => X (Proc.devRef .tc b)) ∗ oweSt (F := F) n c)

theorem pdats_owed (p : Fin 2) (c : Dev nD) (t) : (pdats (F := F) W n p c).owed t = (K (F := F)).Otc c n :=
  match p with | 0 => rfl | 1 => rfl
theorem pdats_recorded (p : Fin 2) (c : Dev nD) (t) : (pdats (F := F) W n p c).recorded t = recs (F := F) n c :=
  match p with | 0 => rfl | 1 => rfl
theorem pdats_share (p : Fin 2) (c : Dev nD) (w) : (pdats (F := F) W n p c).share w = fullShare :=
  (pdats W n p c).share_full (match p with | 0 => fun _ => rfl | 1 => fun _ => rfl) w
theorem pdats_A (p : Fin 2) (c : Dev nD) (w) : (pdats (F := F) W n p c).A w = W c (Proc.devRef .tc (Pipeline.arrRef (cfgs p).spec w)) :=
  match p with | 0 => rfl | 1 => rfl
theorem pdats_Φ (p : Fin 2) (c : Dev nD) (t) : (pdats (F := F) W n p c).Φ t = Pipeline.scopedRest (cfgs p).spec c :=
  match p with | 0 => rfl | 1 => rfl

theorem waits (p : Fin 2) (c : Dev nD) :
    (levAts (K (F := F)).L (K (F := F)).lev : sProp 𝕄) ⊢ Pipeline.cellsWaits (Pipeline.pin (pcfgs (F := F)) adm) (pdats W n) none p c :=
  Pipeline.cellsWaits_of_cut _ _ none p c (8 * n) ((K (F := F)).Otc c n) (fun t => pdats_owed W n p c t)
    (fun _ _ => Finset.mem_univ _) (fun _ _ => Nat.zero_le _)
    (fun g i h => ⟨Finset.mem_univ _, SparseCore.Cfg.lev_of_Otc_pos h⟩)

set_option backward.isDefEq.respectTransparency.types false in
def reg (p : Fin 2) : Pipeline.RegionSeg (pcfgs (F := F)) adm (pdats W n) none defs₀ 𝒱₀ (K (F := F)).L (K (F := F)).lev p where
  win := (kit p).win.to₀
  block_pos := (kit p).block_pos
  stage_whole := (kit p).stage_whole
  K := PEmpty
  osem := fun k => k.elim
  ho := Pipeline.OwnSemFacts.none _
  hbody := fun c => (body W n p c).loose
  hwaits := waits W n p
  pre := fun c => st n (W c) c
  post := fun c => st n (post W n p c) c
  X := fun _ => iprop(emp)
  Y := fun _ => iprop(emp)
  Z := fun c => Pipeline.unscopedRest (cfgs p).spec c (fun b => W c (Proc.devRef .tc b))
  hentry := fun c => by
    rw [Pipeline.ownSems0_none]
    have hsplit := Pipeline.arrays_of_unscopedBufs (p := p) (pcfgs (F := F)) adm (pdats W n) (kit p).win (kit p).arr_whole c
      (pdats_share W n p c) (fun b => W c (Proc.devRef .tc b)) (fun w => pdats_A W n p c w)
    iintro ⟨⟨Hub, %Wd, %hWd, HO⟩, -, -⟩
    ihave H := hsplit $$ Hub
    icases H with ⟨Ha, Hrest⟩
    imodintro
    isplitl [Ha]; · iexact Ha
    isplitr
    · rw [Pipeline.prefHeld_of_none _ rfl]; iempintro
    isplitl [HO]
    · unfold Dat.owesAt Pipeline.owesWithin Dat.bound
      rw [pdats_owed, pdats_recorded]
      iexists Wd; isplitr; · ipureintro; exact fun q hq => Or.inl (hWd q hq)
      iexact HO
    isplitr; · iempintro
    iexact Hrest
  hin := fun c => by
    rw [pdats_Φ]
    iintro ⟨-, -, H⟩; iexact H
  hout := fun c => by
    rw [pdats_Φ, Pipeline.ownSems0_none]
    iintro H
    isplitr; · iempintro
    isplitr; · iempintro
    iexact H
  hexit := fun c => by
    have hjoin := Pipeline.unscopedBufs_of_arrays (p := p) (pcfgs (F := F)) adm (Ix := HIx 1) (Name := ℕ) (U := UU) (Lvl := ℕ)
      (kit p).win (kit p).arr_whole c (pdats W n) (pdats_share W n p c)
      (fun b => W c (Proc.devRef .tc b)) (fun b => post W n p c (Proc.devRef .tc b)) ((pdats W n p c).arrAt · (cfgs p).N)
      (fun w => (Pipeline.afterRegion_arr (pdats W n p c) (W c) (kit p).win.arr_inj w).symm)
      (fun b hb => Pipeline.afterRegion_of_not_arr (pdats W n p c) (W c)
        fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Dat.owesAt Pipeline.owesWithin Dat.bound
    rw [pdats_owed, pdats_recorded]
    icases HO with ⟨%Wd, %hWd, HO⟩
    iexists Wd; isplitr
    · ipureintro
      intro q hq
      rcases hWd hq with h | ⟨w, s, rfl⟩
      · exact h
      · exact Nat.zero_le _
    iexact HO

theorem phinj : Function.Injective (Pipeline.cellOf (nD := nD) (τ := τ) (Pipeline.pin (pcfgs (F := F)) adm)) := cellOf_inj

set_option backward.isDefEq.respectTransparency.types false in
/-- A region run on the program's TensorCore. -/
theorem run_region (p : Fin 2) (κ : GSem nD τ sig → ℕ) {P : (K (F := F)).Pay (nD := nD) (Val := Elt F) (Name := ℕ) (U := UU)} (c : Dev nD) (Q : PUnit → sProp 𝕄) :
    iprop((K (F := F)).ctx EH P κ ∗ boundary (c.tc : Thread nD τ) ∗ st n (W c) c
        ∗ (Pipeline.cellsGhost (Pipeline.pin (pcfgs (F := F)) adm) (EP (F := F)) p c ∗ Pipeline.toksInit (Pipeline.pin (pcfgs (F := F)) adm) (EP (F := F)) p c)
        ∗ (iprop(boundary (c.tc : Thread nD τ) ∗ st n (post W n p c) c) -∗ Q ⟨⟩))
      ⊢ wp frame (wpE ((K (F := F)).defs (D (F := F))) 𝒱 (T c) none) Set.univ
          (Prog.lift (.customCall (SparseCore.inner (Pipeline.entry p)) ())) Q := by
  change _ ⊢ wp _ _ _ (SparseCore.liftProg (Prog.lift (.customCall (Pipeline.entry p) ()))) _
  refine BI.Entails.trans ?_ ((K (F := F)).wp_liftProg (D (F := F)) 𝒱 (T c) Set.univ none _ _)
  refine BI.Entails.trans ?_ ((reg W n p).wp (pcfgs (F := F)) adm (pdats W n) none phinj EP defs₀ 𝒱₀ _ _ c none (fun _ h => nomatch h) _ Q)
  change _ ⊢ (iprop((iprop(boundary (c.tc : Thread nD τ) ∗ st n (post W n p c) c) -∗ wp frame (wpE (D (F := F)) 𝒱 (c.tc : Thread nD τ) none) Set.univ (Prog.ret PUnit.unit) Q)
      ∗ boundary (c.tc : Thread nD τ) ∗ st n (W c) c ∗ levAts (K (F := F)).L (K (F := F)).lev
      ∗ Pipeline.cellsGhost (Pipeline.pin (pcfgs (F := F)) adm) (EP (F := F)) p c ∗ Pipeline.toksInit (Pipeline.pin (pcfgs (F := F)) adm) (EP (F := F)) p c) : sProp 𝕄)
  iintro ⟨#Hctx, Hb, Hst, ⟨Hg, Ht⟩, Hk⟩
  isplitl [Hk]
  · iintro H; rw [wp_ret]; imodintro; iapply Hk; iexact H
  isplitl [Hb]; · iexact Hb
  isplitl [Hst]; · iexact Hst
  isplitr
  · iapply ((K (F := F)).ctx_levAts κ); iexact Hctx
  isplitl [Hg]; · iexact Hg
  iexact Ht

end Cert.Proof.Whole

end
-- ==== Proof.WholeLaunch.lean ====
/-
  The launch of the whole kernel. Its TensorCore runs the binning region, the SparseCore call and the loss region in turn,
  the arrays recast between them; `bufs` follows every buffer through those steps. At the SparseCore call the index array
  is dealt to the thirty-two tasks as read shares, the result by rows; every task runs as `tile_body` says, and what comes
  back is the index array as it was and the result holding the histograms.
-/
module

public import proofs.«01_k».proof.Proof.WholeTask
public import proofs.«01_k».proof.Proof.WholeRegion

@[expose] public section

noncomputable section

namespace Cert.Proof.Whole

open Cert.LossIdeal Cert.LossIdeal.Gen

open Idealize.ShloMosaic
open Idealize.ShloMosaic.ValueIdx Idealize.ShloMosaic.Routing
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F] [Named F] [∀ e, Nonempty (Elt F e)]

local notation "𝕄" => MT nD τ sig (HIx 1) (Elt F) ℕ UU ℕ
local notation "iW" => (Memref.whole Cert.LossIdeal.main_v3_scv : Memref Cert.LossIdeal.sig Kind.scVector Space.hbm Cert.LossIdeal.S12386304 EltTy.i32)
local notation "oW" => (Memref.whole Cert.LossIdeal.main_v4_scv : Memref Cert.LossIdeal.sig Kind.scVector Space.hbm Cert.LossIdeal.S32x43008 EltTy.i32)
local notation "b0W" => (Memref.whole Cert.LossIdeal.cc1_scratch0 : Memref Cert.LossIdeal.sig Kind.scVector Space.vmem Cert.LossIdeal.S4608 EltTy.i32)
local notation "b1W" => (Memref.whole Cert.LossIdeal.cc1_scratch1 : Memref Cert.LossIdeal.sig Kind.scVector Space.vmem Cert.LossIdeal.S4608 EltTy.i32)
local notation "hW" => (Memref.whole Cert.LossIdeal.cc1_scratch2 : Memref Cert.LossIdeal.sig Kind.scVector Space.vmem Cert.LossIdeal.S43008 EltTy.i32)

/- What the index array and the result hold when the SparseCore call starts. -/
variable (x : (d : Dev nD) → Buf (Elt F) (iLoc d)) (o : (d : Dev nD) → Buf (Elt F) (oLoc d))

/-! ## What the handshakes carry -/

/-- Task `w`'s part: two shares of the index array, and row `w` of the result at `f`. -/
def part (d : Dev nD) (w : ℕ) (f : Buf (Elt F) (oLoc d)) : sProp 𝕄 :=
  iprop((iLoc d ↦{(shareTokN fullShare w).left} x d) ∗ (iLoc d ↦{(shareTokN fullShare w).right} x d)
    ∗ oLoc d ↦[outSet w]{fullShare} f)

/-- The result the call leaves: the histograms of the index array. -/
abbrev hist (d : Dev nD) : Buf (Elt F) (oLoc d) := histArr (x d)

instance part_storable (d : Dev nD) (w : ℕ) (f : Buf (Elt F) (oLoc d)) : BI.Storable (upEmb : UEmb _ 𝕄) (part x d w f) := by
  unfold part; infer_instance

/-- The call takes every task's part with the result as launched, and brings it back with the result at the histograms. -/
def P : (K (F := F)).Pay (nD := nD) (Val := Elt F) (Name := ℕ) (U := UU) where
  st := fun q d c => match q with
    | 0 => bigSep Finset.univ fun i : Fin ((K (F := F)).nSub 0) => part x d (2 * i.val + c.val) (o d)
  dn := fun q d c => match q with
    | 0 => bigSep Finset.univ fun i : Fin ((K (F := F)).nSub 0) => part x d (2 * i.val + c.val) (hist x d)
  go := fun q d c i => match q with | 0 => part x d (2 * i.val + c.val) (o d)
  td := fun q d c i => match q with | 0 => part x d (2 * i.val + c.val) (hist x d)
  x := fun _ _ => iprop(emp)

instance P_storable : (P (F := F) x o).IsStorable where
  st q d c := match q with
    | 0 => (inferInstance : BI.Storable (upEmb : UEmb _ 𝕄)
        (bigSep Finset.univ fun i : Fin ((K (F := F)).nSub 0) => part x d (2 * i.val + c.val) (o d)))
  dn q d c := match q with
    | 0 => (inferInstance : BI.Storable (upEmb : UEmb _ 𝕄)
        (bigSep Finset.univ fun i : Fin ((K (F := F)).nSub 0) => part x d (2 * i.val + c.val) (hist x d)))
  go q d c i := match q with
    | 0 => (inferInstance : BI.Storable (upEmb : UEmb _ 𝕄) (part x d (2 * i.val + c.val) (o d)))
  td q d c i := match q with
    | 0 => (inferInstance : BI.Storable (upEmb : UEmb _ 𝕄) (part x d (2 * i.val + c.val) (hist x d)))

/-! ## The tasks -/

/-- What the proof asks of the entry contents: every word of the index array names a bin. -/
def PreOK : Prop := ∀ (d : Dev nD) (j : S12386304.Idx), (x d j).toNat < 43008

theorem words_lt (hpre : PreOK x) (d : Dev nD) (L : grid1.Coords) (n : ℕ) : (words (x d) L n).toNat < 43008 := by
  unfold words word
  split
  · exact hpre d _
  · decide

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__hist_body (coordsV c s)
          iW (Memref.isWhole_whole _) oW (Memref.isWhole_whole _) b0W (Memref.isWhole_whole _) b1W (Memref.isWhole_whole _)
          hW (Memref.isWhole_whole _) cc1_scratch3 cc1_scratch4 cc1_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem obl_pre {A C R : sProp 𝕄} : iprop(A ∗ emp ∗ C ∗ R) ⊢ iprop(A ∗ C ∗ R) := by
  iintro ⟨HA, -, HC, HR⟩
  isplitl [HA]; · iexact HA
  isplitl [HC]; · iexact HC
  iexact HR

set_option maxRecDepth 1024 in
theorem tileObl (hF : (K (F := F)).Facts) (hpre : PreOK x) : (K (F := F)).TileObl (D (F := F)) 𝒱 (P x o) v₀ 0 := by
  intro d c i O W hO _ _
  simp only [show (P x o).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact obl_pre.trans ((tile_body d (coordsV ⟨_, hc.1⟩ ⟨_, hc.2⟩) hF (x d) (words_lt x hpre d _)
    (shareTokN fullShare (2 * i.val + c.val)).left (shareTokN fullShare (2 * i.val + c.val)).right (o d) O W hO).trans
    (wp_mono frame _ _ fun _ => obl_post (q := 0)))

theorem vecSplit : (K (F := F)).VecSplit' (P x o) 0 := by
  intro d c
  show iprop(bigSep Finset.univ fun i : Fin ((K (F := F)).nSub 0) => part x d (2 * i.val + c.val) (o d)) ⊢ |={Set.univ}=> iprop(
      (bigSep Finset.univ fun i : Fin ((K (F := F)).nSub 0) => part x d (2 * i.val + c.val) (o d))
      ∗ ((bigSep Finset.univ fun i : Fin ((K (F := F)).nSub 0) => part x d (2 * i.val + c.val) (hist x d))
          -∗ (bigSep Finset.univ fun i : Fin ((K (F := F)).nSub 0) => part x d (2 * i.val + c.val) (hist x d))))
  iintro H; imodintro
  isplitl [H]; · iexact H
  iintro H; iexact H

/-! ## The parts, dealt out and put together -/

theorem rows_disjoint : ∀ w ∈ (Finset.univ : Finset (Fin 32)), ∀ w' ∈ (Finset.univ : Finset (Fin 32)), w ≠ w' →
    Disjoint (outSet w.val) (outSet w'.val) := by
  intro w _ w' _ h
  refine Finset.disjoint_left.mpr fun j h1 h2 => h (Fin.ext ?_)
  exact (Finset.mem_filter.mp h1).2.symm.trans (Finset.mem_filter.mp h2).2

theorem rows_cover : (Finset.univ : Finset (Fin 32)).biUnion (fun w => outSet w.val) = Finset.univ :=
  Finset.eq_univ_iff_forall.mpr fun j =>
    Finset.mem_biUnion.mpr ⟨j 0, Finset.mem_univ _, Finset.mem_filter.mpr ⟨Finset.mem_univ _, rfl⟩⟩

theorem out_rows (d : Dev nD) (f : Buf (Elt F) (oLoc d)) :
    (oLoc d ↦{fullShare} f : sProp 𝕄) = bigSep Finset.univ fun w : Fin 32 => oLoc d ↦[outSet w.val]{fullShare} f := by
  rw [← pointsTo_biUnion Finset.univ (ℓ := oLoc d) (fun w : Fin 32 => outSet w.val) rows_disjoint, rows_cover]; try rfl

/-- One share of the index array is its two halves. -/
theorem tok_halves (d : Dev nD) (q : PosShare TreeShare) :
    (iLoc d ↦{q} x d : sProp 𝕄) ⊣⊢ iprop((iLoc d ↦{q.left} x d) ∗ iLoc d ↦{q.right} x d) :=
  pointsTo_share (PosShare.mem_left_op_right _)

theorem toks_halve (d : Dev nD) :
    (bigSep Finset.univ fun i : Fin 32 => (iLoc d ↦{shareTok fullShare 32 i} x d : sProp 𝕄))
      ⊢ bigSep Finset.univ fun i : Fin 32 => iprop((iLoc d ↦{(shareTokN fullShare i.val).left} x d) ∗ iLoc d ↦{(shareTokN fullShare i.val).right} x d) :=
  bigSep_mono fun _ _ => (tok_halves x d _).1

theorem toks_join (d : Dev nD) :
    (bigSep Finset.univ fun i : Fin 32 => iprop((iLoc d ↦{(shareTokN fullShare i.val).left} x d) ∗ iLoc d ↦{(shareTokN fullShare i.val).right} x d) : sProp 𝕄)
      ⊢ bigSep Finset.univ fun i : Fin 32 => iLoc d ↦{shareTok fullShare 32 i} x d :=
  bigSep_mono fun _ _ => (tok_halves x d _).2

/-- What is kept of the index array while the tasks run. -/
abbrev kept (d : Dev nD) : sProp 𝕄 := iLoc d ↦{shareDrop fullShare 32} x d

theorem deal (d : Dev nD) (f : Buf (Elt F) (oLoc d)) :
    iprop((iLoc d ↦{fullShare} x d) ∗ oLoc d ↦{fullShare} f) ⊢ iprop(kept x d ∗ bigSep Finset.univ fun w : Fin 32 => part x d w.val f) := by
  unfold part
  rw [bigSep_sep', bigSep_sep', ← out_rows]
  iintro ⟨Hi, Ho⟩
  ihave Hi := (pointsTo_toks_split (ℓ := iLoc d) (S := Finset.univ) (f := x d) fullShare 32) $$ Hi
  icases Hi with ⟨Hk, Ht⟩
  isplitl [Hk]; · iexact Hk
  ihave Ht := (toks_halve x d) $$ Ht
  ihave Ht := (Entails.of_eq (bigSep_sep' _ _ _)) $$ Ht
  icases Ht with ⟨Ha, Hb⟩
  isplitl [Ha]; · iexact Ha
  isplitl [Hb]; · iexact Hb
  iexact Ho

theorem undeal (d : Dev nD) (f : Buf (Elt F) (oLoc d)) :
    iprop(kept x d ∗ bigSep Finset.univ fun w : Fin 32 => part x d w.val f) ⊢ iprop((iLoc d ↦{fullShare} x d) ∗ oLoc d ↦{fullShare} f) := by
  unfold part
  rw [bigSep_sep', bigSep_sep', ← out_rows]
  iintro ⟨Hk, Ha, Hb, Ho⟩
  isplitr [Ho]
  · iapply (pointsTo_toks_join (ℓ := iLoc d) (S := Finset.univ) (f := x d) fullShare 32)
    isplitl [Hk]; · iexact Hk
    iapply (toks_join x d)
    rw [bigSep_sep']
    isplitl [Ha]; · iexact Ha
    iexact Hb
  · iexact Ho

/-- The task of SparseCore `c`, subcore `i`. -/
def taskOf (p : Fin 2 × Fin 16) : Fin 32 := ⟨2 * p.2.val + p.1.val, by omega⟩

theorem taskOf_inj : Set.InjOn taskOf ((Finset.univ : Finset (Fin 2 × Fin 16)) : Set _) := by
  rintro ⟨a, b⟩ _ ⟨a', b'⟩ _ e
  have e' : 2 * b.val + a.val = 2 * b'.val + a'.val := congrArg Fin.val e
  exact Prod.ext (Fin.ext (by show a.val = a'.val; omega)) (Fin.ext (by show b.val = b'.val; omega))

theorem taskOf_univ : (Finset.univ : Finset (Fin 2 × Fin 16)).image taskOf = Finset.univ := by
  refine Finset.eq_univ_iff_forall.mpr fun w => Finset.mem_image.mpr
    ⟨(⟨w.val % 2, by omega⟩, ⟨w.val / 2, by omega⟩), Finset.mem_univ _, Fin.ext ?_⟩
  show 2 * (w.val / 2) + w.val % 2 = w.val
  omega

theorem by_cores (Φ : ℕ → sProp 𝕄) :
    (bigSep Finset.univ fun w : Fin 32 => Φ w.val)
      = bigSep Finset.univ fun c : Fin 2 => bigSep Finset.univ fun i : Fin 16 => Φ (2 * i.val + c.val) := by
  rw [← taskOf_univ, SparseCore.bigSep_image_of_injOn taskOf_inj, ← Finset.univ_product_univ]
  exact SparseCore.bigSep_product _ _ _

theorem st0_eq (d : Dev nD) : (bigSep Finset.univ fun c : Fin ((K (F := F)).nCore 0) => (P x o).st 0 d c)
    = bigSep Finset.univ fun w : Fin 32 => part x d w.val (o d) :=
  (by_cores fun w => part x d w (o d)).symm
theorem dn0_eq (d : Dev nD) : (bigSep Finset.univ fun c : Fin ((K (F := F)).nCore 0) => (P x o).dn 0 d c)
    = bigSep Finset.univ fun w : Fin 32 => part x d w.val (hist x d) :=
  (by_cores fun w => part x d w (hist x d)).symm

/-! ## The buffers, step by step -/

section Bufs

variable (m : (ℓ : Loc nD τ sig) → Buf (Elt F) ℓ)

/-- The recastings between the calls. -/
abbrev r0 : HloOp τ sig (Elt F) := StableHlo.reshape main_arg0 main_v0 (rfl : (.f32 : EltTy) = .f32) shapeCasts_S4x21x384x384_S4x21x147456
abbrev r1 : HloOp τ sig (Elt F) := StableHlo.reshape main_arg1 main_v1 (rfl : (.i32 : EltTy) = .i32) shapeCasts_S4x384x384_S4x1x147456
abbrev r2 : HloOp τ sig (Elt F) := StableHlo.reshape main_v2 main_v3 (rfl : (.i32 : EltTy) = .i32) shapeCasts_S4x21x147456_S12386304
abbrev r3 : HloOp τ sig (Elt F) := StableHlo.reshape main_v4 main_v5 (rfl : (.i32 : EltTy) = .i32) shapeCasts_S32x43008_S32x2x21x1024
abbrev r4 : HloOp τ sig (Elt F) := StableHlo.reshape main_v6 main_v7 (rfl : (.f32 : EltTy) = .f32) shapeCasts_S1x1_S_

/-- As launched; before and after the binning region; before and after the SparseCore call; before and after the loss
    region; at the end. -/
def V0 (d : Dev nD) : Valuation τ sig (Elt F) := fun b => m (d, b)
def V2 (d : Dev nD) : Valuation τ sig (Elt F) := (r1 (F := F)).result ((r0 (F := F)).result (V0 m d))
def V3 (d : Dev nD) : Valuation τ sig (Elt F) := post (V2 m) 0 0 d
def V4 (d : Dev nD) : Valuation τ sig (Elt F) := (r2 (F := F)).result (V3 m d)
def V5 (d : Dev nD) : Valuation τ sig (Elt F) :=
  Function.update (V4 m d) (Proc.devRef .tc main_v4) (histArr (V4 m d (Proc.devRef .tc main_v3)))
def V6 (d : Dev nD) : Valuation τ sig (Elt F) := (r3 (F := F)).result (V5 m d)
def V7 (d : Dev nD) : Valuation τ sig (Elt F) := post (V6 m) 1 1 d
def V8 (d : Dev nD) : Valuation τ sig (Elt F) := (r4 (F := F)).result (V7 m d)

/-- The index array and the result when the SparseCore call starts. -/
def xs (d : Dev nD) : Buf (Elt F) (iLoc d) := V4 m d (Proc.devRef .tc main_v3)
def os (d : Dev nD) : Buf (Elt F) (oLoc d) := V4 m d (Proc.devRef .tc main_v4)

/-! ## The launch element of the ghost state -/

/-- The pipelines' ghost state on one core. -/
abbrev G (d : Dev nD) : sProp 𝕄 :=
  bigSep Finset.univ fun p : Fin 2 => iprop(Pipeline.cellsGhost (Pipeline.pin (pcfgs (F := F)) adm) (EP (F := F)) p d
    ∗ Pipeline.toksInit (Pipeline.pin (pcfgs (F := F)) adm) (EP (F := F)) p d)

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem bigSep_emp' {I : Type} (s : Finset I) : (bigSep s fun _ => iprop(emp)) = (iprop(emp) : sProp 𝕄) := bigSep_emp_const s

theorem own_split (a : UP) (b : Counters) :
    (BI.own (embR (A := UH) (a, b)) : sProp 𝕄) ⊢ iprop(BI.own (EP (F := F) a) ∗ BI.own (((Emb.inr : Emb Counters (UP × Counters)).trans embR) b)) :=
  own_pair_emb embR a b

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P x o).x q thr) := by
  unfold u₀
  iintro Hu
  ihave H := (ownU_pair _ _) $$ Hu
  icases H with ⟨HH, HR⟩
  ihave H := (own_split _ _) $$ HR
  icases H with ⟨HP, -⟩
  imod (Pipeline.fund_ghost (Pipeline.pin (pcfgs (F := F)) adm) (EP (F := F)) phinj) $$ HP with ⟨Hg, Ht⟩
  imodintro
  isplitl [HH]; · iexact HH
  isplitl [Hg Ht]
  · unfold G
    simp only [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- Every unscoped buffer at a valuation. -/
abbrev bufs (d : Dev nD) (X : Valuation τ sig (Elt F)) : sProp 𝕄 := unscopedBufs d (fun b => X (Proc.devRef .tc b))

theorem bufs_split (d : Dev nD) (X : Valuation τ sig (Elt F)) :
    bufs d X = iprop((iLoc d ↦{fullShare} X (Proc.devRef .tc main_v3)) ∗ (oLoc d ↦{fullShare} X (Proc.devRef .tc main_v4))
      ∗ bigSep (({main_arg0, main_arg1, main_v0, main_v1, main_v2, main_v5, main_v6, main_v7} : Finset (Ref sig .tc)))
          fun b => (d.tc : Thread nD τ).loc b ↦{fullShare} X (Proc.devRef .tc b)) := by
  unfold bufs unscopedBufs
  rw [show (Finset.univ.filter fun b : Ref sig .tc => ¬ b.isScoped)
      = insert main_v3 (insert main_v4 {main_arg0, main_arg1, main_v0, main_v1, main_v2, main_v5, main_v6, main_v7}) by decide,
    SparseCore.bigSep_insert' (by decide), SparseCore.bigSep_insert' (by decide)]

/-- One operation between the calls. -/
theorem host_step (d : Dev nD) (op : HloOp τ sig (Elt F)) (hb : op.bufs ⊆ StableHlo.tcRefs τ sig) (hf : op.fresh = ∅) (X : Valuation τ sig (Elt F)) (Q : PUnit → sProp 𝕄) :
    iprop(boundary (d.tc : Thread nD τ) ∗ bufs d X ∗ (iprop(boundary (d.tc : Thread nD τ) ∗ bufs d (op.result X)) -∗ Q ⟨⟩))
      ⊢ wp frame (wpE ((K (F := F)).defs (D (F := F))) 𝒱 (T d) none) Set.univ (hlo (p := Proc.tc) rfl op (fun _ => .ret ⟨⟩)) Q := by
  unfold bufs
  rw [Pipeline.unscopedBufs_held d X, Pipeline.unscopedBufs_held d (op.result X)]
  iintro ⟨Hb, Hh, Hk⟩
  iapply (StableHlo.wp_hlo_within 𝒱 (T d : Thread nD τ) none Set.univ (op := op) (Pipeline.sub_ucRefs op hb) (V := X) hf) $$ [Hb Hh]
  · isplitl [Hb]; · iexact Hb
    iexact Hh
  iintro H
  rw [wp_ret]; imodintro
  iapply Hk; iexact H

/-- The SparseCore call. -/
theorem call_step (κ : GSem nD τ sig → ℕ) (d : Dev nD) (Q : PUnit → sProp 𝕄) :
    iprop((K (F := F)).ctx EH (P (xs m) (os m)) κ ∗ (K (F := F)).tcSt EH d 0 ∗ bufs d (V4 m d)
        ∗ (iprop((K (F := F)).tcSt EH d 1 ∗ bufs d (V5 m d)) -∗ Q ⟨⟩))
      ⊢ wp frame (wpE ((K (F := F)).defs (D (F := F))) 𝒱 (T d) none) Set.univ ((K (F := F)).run d 0) Q := by
  rw [bufs_split d (V4 m d), bufs_split d (V5 m d)]
  iintro ⟨#Hctx, Hst, ⟨Hi, Ho, Hr⟩, Hk⟩
  ihave Hio := (deal (xs m) d (os m d)) $$ [Hi Ho]
  · isplitl [Hi]; · iexact Hi
    iexact Ho
  icases Hio with ⟨Hkp, Hp⟩
  iapply ((K (F := F)).wp_run (D (F := F)) 𝒱 (EH := EH) (P := P (xs m) (os m)) κ d 0) $$ [Hst Hkp Hp Hr Hk]
  isplitr; · iexact Hctx
  isplitl [Hst]; · iexact Hst
  isplitl [Hp]
  · rw [st0_eq]; iexact Hp
  iintro ⟨Hst, Hdn⟩
  ihave Hdn' := (Entails.of_eq (dn0_eq (xs m) (os m) d)) $$ Hdn
  ihave Hio := (undeal (xs m) d (hist (xs m) d)) $$ [Hkp Hdn']
  · isplitl [Hkp]; · iexact Hkp
    iexact Hdn'
  icases Hio with ⟨Hi, Ho⟩
  iapply Hk
  isplitl [Hst]; · iexact Hst
  isplitl [Hi]
  · iapply (Entails.of_eq (show (iLoc d ↦{fullShare} xs m d : sProp 𝕄) = (iLoc d ↦{fullShare} V5 m d (Proc.devRef .tc main_v3)) from by
      unfold V5; rw [Function.update_of_ne (StableHlo.devRef_ne_of_ne (by decide))]; rfl))
    iexact Hi
  isplitl [Ho]
  · iapply (Entails.of_eq (show (oLoc d ↦{fullShare} hist (xs m) d : sProp 𝕄) = (oLoc d ↦{fullShare} V5 m d (Proc.devRef .tc main_v4)) from by
      unfold V5; rw [Function.update_self]; rfl))
    iexact Ho
  iapply (Entails.of_eq (bigSep_congr (s := ({main_arg0, main_arg1, main_v0, main_v1, main_v2, main_v5, main_v6, main_v7} : Finset (Ref sig .tc)))
    (Φ := fun b => ((d.tc : Thread nD τ).loc b ↦{fullShare} V4 m d (Proc.devRef .tc b) : sProp 𝕄))
    (Ψ := fun b => ((d.tc : Thread nD τ).loc b ↦{fullShare} V5 m d (Proc.devRef .tc b) : sProp 𝕄)) (fun b hb => by
      unfold V5; rw [Function.update_of_ne (StableHlo.devRef_ne_of_ne (fun h => absurd (h ▸ hb) (by decide)))])))
  iexact Hr

/-- What the core owes, taken out of its state. -/
theorem tcSt_owes (d : Dev nD) (n : ℕ) :
    ∃ R : sProp 𝕄, ((K (F := F)).tcSt EH d n : sProp 𝕄) = iprop(oweSt (F := F) n d ∗ R) := ⟨_, rfl⟩

variable (ρ : Dev nD → PrngReg)

theorem hmain (κ : GSem nD τ sig → ℕ) (d : Dev nD) :
    iprop((K (F := F)).ctx EH (P (xs m) (os m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ bufs d (V8 m d) ∗ (K (F := F)).tcEnd d) := by
  unfold SparseCore.Cfg.tcRes SparseCore.Cfg.tcEnd G
  obtain ⟨R0, h0⟩ := tcSt_owes (F := F) d 0
  obtain ⟨R1, h1⟩ := tcSt_owes (F := F) d 1
  rw [show (Finset.univ : Finset (Fin 2)) = insert 0 {1} by decide, SparseCore.bigSep_insert' (by decide), bigSep_singleton]
  simp only [main, wp_bind, wp_pure]
  iintro ⟨#Hctx, Hst, ⟨Hb, Hbufs, Hts, -⟩, Hg0, Hg1⟩
  iapply (host_step d r0 (StableHlo.reshape_bufs_sub _ _ _ _ _ _) rfl (V0 m d) _)
  isplitl [Hb]; · iexact Hb
  isplitl [Hbufs]; · iexact Hbufs
  iintro ⟨Hb, Hbufs⟩
  iapply (host_step d r1 (StableHlo.reshape_bufs_sub _ _ _ _ _ _) rfl _ _)
  isplitl [Hb]; · iexact Hb
  isplitl [Hbufs]; · iexact Hbufs
  iintro ⟨Hb, Hbufs⟩
  ihave Hst := (Entails.of_eq h0) $$ Hst
  icases Hst with ⟨HO, HR⟩
  iapply (run_region (V2 m) 0 0 κ d _)
  isplitr; · iexact Hctx
  isplitl [Hb]; · iexact Hb
  isplitl [Hbufs HO]
  · isplitl [Hbufs]; · iexact Hbufs
    iexact HO
  isplitl [Hg0]; · iexact Hg0
  iintro ⟨Hb, Hbufs, HO⟩
  ihave Hst := (Entails.of_eq h0.symm) $$ [HO HR]
  · isplitl [HO] <;> iassumption
  iapply (host_step d r2 (StableHlo.reshape_bufs_sub _ _ _ _ _ _) rfl (V3 m d) _)
  isplitl [Hb]; · iexact Hb
  isplitl [Hbufs]; · iexact Hbufs
  iintro ⟨Hb, Hbufs⟩
  iapply (call_step m κ d _)
  isplitr; · iexact Hctx
  isplitl [Hst]; · iexact Hst
  isplitl [Hbufs]; · iexact Hbufs
  iintro ⟨Hst, Hbufs⟩
  iapply (host_step d r3 (StableHlo.reshape_bufs_sub _ _ _ _ _ _) rfl (V5 m d) _)
  isplitl [Hb]; · iexact Hb
  isplitl [Hbufs]; · iexact Hbufs
  iintro ⟨Hb, Hbufs⟩
  ihave Hst := (Entails.of_eq h1) $$ Hst
  icases Hst with ⟨HO, HR⟩
  iapply (run_region (V6 m) 1 1 κ d _)
  isplitr; · iexact Hctx
  isplitl [Hb]; · iexact Hb
  isplitl [Hbufs HO]
  · isplitl [Hbufs]; · iexact Hbufs
    iexact HO
  isplitl [Hg1]; · iexact Hg1
  iintro ⟨Hb, Hbufs, HO⟩
  ihave Hst := (Entails.of_eq h1.symm) $$ [HO HR]
  · isplitl [HO] <;> iassumption
  iapply (host_step d r4 (StableHlo.reshape_bufs_sub _ _ _ _ _ _) rfl (V7 m d) _)
  isplitl [Hb]; · iexact Hb
  isplitl [Hbufs]; · iexact Hbufs
  iintro ⟨Hb, Hbufs⟩
  imodintro
  isplitl [Hst]; · iexact Hst
  isplitl [Hbufs]; · iexact Hbufs
  isplitl [Hb] <;> iassumption

def fq (d : Dev nD) (s' : Phys nD τ sig (Elt F)) : Prop :=
  ∀ b : Ref sig .tc, b.isScoped = false → s'.mem.mem ((d.tc : Thread nD τ).loc b) = V8 m d (Proc.devRef .tc b)

theorem hfin (d : Dev nD) (s' : Phys nD τ sig (Elt F)) : iprop(bufs d (V8 m d) ∗ SI s') ⊢ (⌜fq m d s'⌝ : sProp 𝕄) := by
  unfold bufs unscopedBufs
  iintro H
  ihave H := (pointsTo_read_all (Finset.univ.filter fun b : Ref sig .tc => ¬ b.isScoped) (fun b => (d.tc : Thread nD τ).loc b)
    (fun b => V8 m d (Proc.devRef .tc b)) s') $$ H
  icases H with ⟨%h, -⟩
  ipureintro
  exact fun b hb => h b (Finset.mem_filter.mpr ⟨Finset.mem_univ _, by simp [hb]⟩)

/-! ## The program's run -/

def QC : PUnit × MemSt nD τ sig (Elt F) → Prop :=
  fun r => (∀ (c : Dev nD) (b : Ref sig .tc), b.isScoped = false → r.2.mem ((c.tc : Thread nD τ).loc b) = V8 m c (Proc.devRef .tc b)) ∧ r.2.sem = fun _ => 0

/-- From any launch memory whose binning region names bins only, the program ends: every buffer as the steps leave it,
    every semaphore at zero. -/
theorem run_main (hpre : PreOK (xs m)) :
    θ_run (Cert.LossIdeal.defs (F := F)) (Cert.LossIdeal.threads (F := F)) ⟨m, fun _ => 0, ρ⟩ (QC m) :=
  SparseCore.Cfg.θ_run_sc_quiescent (K := K (F := F)) (D := D (F := F)) (𝒱 := 𝒱) (EH := EH) (P := P (xs m) (os m)) (A := ∅) facts v₀
    (fun q hq => match q with | 0 => nomatch hq)
    (fun q _ => match q with | 0 => tileObl (xs m) (os m) facts hpre)
    (fun q _ => match q with | 0 => SparseCore.Cfg.VecSplit.of_plain (vecSplit (xs m) (os m)))
    m ρ main (fun d => G (F := F) d) (fun d => bufs d (V8 m d)) (u₀ (F := F)) (sep_elim_left.trans (hu₀ (xs m) (os m))) (hmain m ρ) (fq m) (hfin m) (QC m)
    (fun _ h hz => ⟨h, hz⟩)

end Bufs

end Cert.Proof.Whole

end
-- ==== Proof.WholeBins.lean ====
/-
  The binning kernel's value: at a class and a pixel, the bin of the error there, numbered within the class and the label.
-/
module

public import proofs.«01_k».proof.Proof.Image
public import proofs.«01_k».proof.Proof.WholeLaunch
public import Idealize.ShloMosaic.Lib.Pipeline.Value
public import Idealize.ShloMosaic.Lib.Pipeline.ValueKit.Geometry

@[expose] public section

noncomputable section

namespace Cert.Proof.Whole

open Cert.LossIdeal Cert.LossIdeal.Gen
open Idealize.ShloMosaic Idealize.ShloMosaic.ValueIdx
open Cert.Proof Cert.Proof.Image

/-! ## The body's word -/

section Word

variable (v0 : Vec Ideal S1x21x9216 .f32) (v2 : Vec Ideal S1x1x9216 .i32) (c : Fin 21) (q : Fin 9216)

def peak (l : FVec Ideal S21x9216 .f32) : FVec Ideal S9216 .f32 :=
  multiReduction .maximumf [0] S9216 l 0xFF800000#32 reduces_S21x9216_S9216 (.inl rfl) rfl
def sums (l : FVec Ideal S21x9216 .f32) : FVec Ideal S9216 .f32 :=
  multiReduction .add [0] S9216 l 0x00000000#32 reduces_S21x9216_S9216 (.inl rfl) rfl
abbrev rows {α : Type} (v : S9216.Idx → α) : S21x9216.Idx → α :=
  broadcastTo S21x9216 (shapeCast S1x9216 v shapeCasts_S9216_S1x9216) broadcasts_S1x9216_S21x9216
def logits : FVec Ideal S21x9216 .f32 := shapeCast S21x9216 v0 shapeCasts_S1x21x9216_S21x9216
def exps (l : FVec Ideal S21x9216 .f32) : FVec Ideal S21x9216 .f32 := exp (subf l (rows (peak l)))
def probs (l : FVec Ideal S21x9216 .f32) : FVec Ideal S21x9216 .f32 := divf (exps l) (rows (sums (exps l)))
def hits : IVec S21x9216 1 :=
  cmpi .eq (iota .tc S21x9216 32 [0] iota_S21x9216_d0_w32)
    (broadcastTo S21x9216 (shapeCast S1x9216 v2 shapeCasts_S1x1x9216_S1x9216) broadcasts_S1x9216_S21x9216)
def errs (h : IVec S21x9216 1) (p : FVec Ideal S21x9216 .f32) : FVec Ideal S21x9216 .f32 :=
  select h (subf (broadcast S21x9216 (Scalar.ofBits .f32 0x3F800000#32)) p) p
def bins (e : FVec Ideal S21x9216 .f32) : IVec S21x9216 32 :=
  minsi (fptosi 32 (mulf e (broadcast S21x9216 (Scalar.ofBits .f32 0x44800000#32)))) (broadcast S21x9216 1023#32)
def wordsOf (h : IVec S21x9216 1) (b : IVec S21x9216 32) : IVec S21x9216 32 :=
  addi (addi (select h (broadcast S21x9216 21504#32) (broadcast S21x9216 0#32))
    (muli (iota .tc S21x9216 32 [0] iota_S21x9216_d0_w32) (broadcast S21x9216 1024#32))) b

theorem pay_eq : k0_pay1 (F := Ideal) v0 v2
    = shapeCast S1x21x9216 (wordsOf (hits v2) (bins (errs (hits v2) (probs (logits v0))))) shapeCasts_S21x9216_S1x21x9216 := rfl

theorem rows_apply {α : Type} (v : S9216.Idx → α) : rows v (ix2 c q) = v (ix1 q) := by
  refine (broadcastTo_apply _ broadcasts_S1x9216_S21x9216 (ix2 c q) (ix2 (0 : Fin 1) q) (fun a => by
    match a with
    | ⟨0, _⟩ => exact (if_pos rfl).symm
    | ⟨1, _⟩ => exact (if_neg (by decide : ¬ (9216 : ℕ) = 1)).symm)).trans ?_
  refine shapeCast_apply _ shapeCasts_S9216_S1x9216 (ix2 (0 : Fin 1) q) (ix1 q) ?_
  rw [Shape.rowMajor_val_one, Shape.rowMajor_val_two]
  show q.val = 0 * 9216 + q.val
  omega

theorem class_apply : iota .tc S21x9216 32 [0] iota_S21x9216_d0_w32 (ix2 c q) = BitVec.ofNat 32 c.val :=
  iota_single_apply _ _ _ _ _ _

theorem word_apply (h : IVec S21x9216 1) (b : IVec S21x9216 32) : wordsOf h b (ix2 c q)
    = IntOp.addi (IntOp.addi (Scalar.select (h (ix2 c q)) 21504#32 0#32) (IntOp.muli (BitVec.ofNat 32 c.val) 1024#32)) (b (ix2 c q)) := by
  rw [← class_apply c q]; rfl

theorem logits_apply : logits v0 (ix2 c q) = v0 (ix3 (0 : Fin 1) c q) := by
  refine shapeCast_apply _ shapeCasts_S1x21x9216_S21x9216 (ix2 c q) _ ?_
  rw [Shape.rowMajor_val_two, Shape.rowMajor_val_three]
  show (0 * 21 + c.val) * 9216 + q.val = c.val * 9216 + q.val
  omega

theorem lift0 (k : Fin 21) : Shape.Reduces.lift reduces_S21x9216_S9216 (ix1 q) k = ix2 k q := by
  funext a
  match a with
  | ⟨0, _⟩ => rfl
  | ⟨1, _⟩ => rfl

variable {v0 q} {x : Fin 21 → ℝ} (hx : ∀ k, v0 (ix3 (0 : Fin 1) k q) = (x k : EReal))
include hx

theorem peak_apply : peak (logits v0) (ix1 q) = (Pixel.top x : EReal) := by
  unfold peak
  refine (Ideal.multiReduction_maximumf_single _ _ _ _ _ _).trans ?_
  show Finset.univ.fold max (Ideal.ofBits .f32 0xFF800000#32) _ = _
  rw [Pixel.fbot]
  exact Pixel.fold_max _ (fun k => ((congrArg (logits v0) (lift0 q k)).trans (logits_apply v0 k q)).trans (hx k))

theorem exps_apply : exps (logits v0) (ix2 c q) = Ideal.exp (v0 (ix3 (0 : Fin 1) c q) - (Pixel.top x : EReal)) := by
  unfold exps
  show Ideal.exp (subf (logits v0) (rows (peak (logits v0))) (ix2 c q)) = _
  rw [subf_apply, rows_apply, peak_apply hx, logits_apply]

theorem probs_apply : probs (logits v0) (ix2 c q) = (Pixel.prob x c : EReal) := by
  unfold probs
  rw [divf_apply, rows_apply, exps_apply c hx]
  have hs : sums (exps (logits v0)) (ix1 q) = ∑ k : Fin 21, Ideal.exp (v0 (ix3 (0 : Fin 1) k q) - (Pixel.top x : EReal)) := by
    unfold sums
    refine (Ideal.multiReduction_add_single _ _ _ _ _ _).trans ?_
    exact Finset.sum_congr rfl fun k _ => (congrArg (exps (logits v0)) (lift0 q k)).trans (exps_apply k hx)
  rw [hs]
  exact Pixel.soft _ hx c

variable {p : Bool} {v2} (hp : p = decide (v2 (ix3 (0 : Fin 1) (0 : Fin 1) q) = BitVec.ofNat 32 c.val))
include hp
omit hx in
theorem hits_apply : hits v2 (ix2 c q) = BitVec.ofBool p := by
  have h1 : broadcastTo S21x9216 (shapeCast S1x9216 v2 shapeCasts_S1x1x9216_S1x9216) broadcasts_S1x9216_S21x9216 (ix2 c q)
      = v2 (ix3 (0 : Fin 1) (0 : Fin 1) q) := by
    refine (broadcastTo_apply _ broadcasts_S1x9216_S21x9216 (ix2 c q) (ix2 (0 : Fin 1) q) (fun a => by
      match a with
      | ⟨0, _⟩ => exact (if_pos rfl).symm
      | ⟨1, _⟩ => exact (if_neg (by decide : ¬ (9216 : ℕ) = 1)).symm)).trans ?_
    refine shapeCast_apply _ shapeCasts_S1x1x9216_S1x9216 (ix2 (0 : Fin 1) q) _ ?_
    rw [Shape.rowMajor_val_two, Shape.rowMajor_val_three]
    show (0 * 1 + 0) * 9216 + q.val = 0 * 9216 + q.val
    omega
  have h2 := class_apply c q
  unfold hits
  show BitVec.ofBool (iota .tc S21x9216 32 [0] iota_S21x9216_d0_w32 (ix2 c q) == _) = _
  rw [h1, h2, hp]
  congr 1
  rw [Bool.eq_iff_iff, beq_iff_eq, decide_eq_true_iff]
  exact eq_comm

theorem errs_apply : errs (hits v2) (probs (logits v0)) (ix2 c q) = (Pixel.err x p c : EReal) := by
  unfold errs
  rw [select_apply, hits_apply c hp, subf_apply, probs_apply c hx]
  show Scalar.select _ (Ideal.ofBits .f32 0x3F800000#32 - _) _ = _
  rw [Pixel.fone]
  cases p
  · exact select_zero _ _
  · exact (select_one _ _).trans (EReal.coe_sub _ _).symm

theorem bins_apply : bins (errs (hits v2) (probs (logits v0))) (ix2 c q) = BitVec.ofNat 32 (Pixel.bin x p c) := by
  refine Eq.trans ?_ (Pixel.word_eq x p c)
  rw [← errs_apply c hx hp, ← Pixel.f1024]
  rfl

theorem pay_apply : k0_pay1 (F := Ideal) v0 v2 (ix3 (0 : Fin 1) c q)
    = BitVec.ofNat 32 (21504 * p.toNat + 1024 * c.val + Pixel.bin x p c) := by
  rw [pay_eq]
  refine (shapeCast_apply _ shapeCasts_S21x9216_S1x21x9216 _ (ix2 c q) ?_).trans ?_
  · rw [Shape.rowMajor_val_two, Shape.rowMajor_val_three]
    show c.val * 9216 + q.val = (0 * 21 + c.val) * 9216 + q.val
    omega
  rw [word_apply, hits_apply c hp, bins_apply c hx hp]
  have hb := Pixel.bin_lt x p c
  have hc := c.isLt
  unfold IntOp.addi IntOp.muli
  cases p
  · rw [show Scalar.select (BitVec.ofBool false) 21504#32 0#32 = 0#32 from rfl]
    apply BitVec.eq_of_toNat_eq
    simp only [BitVec.toNat_add, BitVec.toNat_mul, BitVec.toNat_ofNat, Bool.toNat_false]
    omega
  · rw [show Scalar.select (BitVec.ofBool true) 21504#32 0#32 = 21504#32 from rfl]
    apply BitVec.eq_of_toNat_eq
    simp only [BitVec.toNat_add, BitVec.toNat_mul, BitVec.toNat_ofNat, Bool.toNat_true]
    omega

end Word

/-! ## The array -/

section Array

variable (m : (ℓ : Loc nD τ sig) → Buf (Elt Ideal) ℓ) (d : Dev nD)

/-- The logits and the labels as launched. -/
abbrev argX : SX.Idx → EReal := m ((d.tc : Thread nD τ).loc main_arg0)
abbrev argY : SY.Idx → BitVec 32 := m ((d.tc : Thread nD τ).loc main_arg1)

/-- The number of a class's and label's bin of the error at pixel `i`. -/
def code (x : SX.Idx → EReal) (y : SY.Idx → BitVec 32) (c : Fin 21) (i : ℕ) : ℕ := 21504 * hot y c i + 1024 * c.val + bn x y c i

theorem code_lt (x : SX.Idx → EReal) (y : SY.Idx → BitVec 32) (c : Fin 21) (i : ℕ) : code x y c i < 43008 := by
  have h1 := hot_le y c i
  have h2 := bn_lt x y c i
  have h3 := c.isLt
  unfold code
  omega

theorem V2_logits (b : Fin 4) (c : Fin 21) (p : Fin 147456) :
    (V2 m d (Proc.devRef .tc main_v0) : S4x21x147456.Idx → EReal) (ix3 b c p) = px (argX m d) (b.val * 147456 + p.val) c := by
  have h1 : V2 m d (Proc.devRef .tc main_v0) = shapeCast S4x21x147456 (argX m d) shapeCasts_S4x21x384x384_S4x21x147456 := by
    unfold V2
    rw [StableHlo.reshape_result_ne _ _ _ _ _ _ _ (show main_v0 ≠ main_v1 by decide),
      StableHlo.reshape_result]
    rfl
  rw [h1]
  have hb := b.isLt
  have hp := p.isLt
  refine shapeCast_apply _ shapeCasts_S4x21x384x384_S4x21x147456 (ix3 b c p) _ ?_
  rw [Shape.rowMajor_val_three, Shape.rowMajor_val_four]
  show (((b.val * 147456 + p.val) / 147456 % 4 * 21 + c.val) * 384 + (b.val * 147456 + p.val) / 384 % 384) * 384 + (b.val * 147456 + p.val) % 384
    = (b.val * 21 + c.val) * 147456 + p.val
  omega

theorem V2_labels (b : Fin 4) (p : Fin 147456) :
    (V2 m d (Proc.devRef .tc main_v1) : S4x1x147456.Idx → BitVec 32) (ix3 b (0 : Fin 1) p) = lb (argY m d) (b.val * 147456 + p.val) := by
  have h1 : V2 m d (Proc.devRef .tc main_v1) = shapeCast S4x1x147456 (argY m d) shapeCasts_S4x384x384_S4x1x147456 := by
    unfold V2
    rw [StableHlo.reshape_result]
    rfl
  rw [h1]
  have hb := b.isLt
  have hp := p.isLt
  refine shapeCast_apply _ shapeCasts_S4x384x384_S4x1x147456 (ix3 b (0 : Fin 1) p) _ ?_
  rw [Shape.rowMajor_val_three, Shape.rowMajor_val_three]
  show ((b.val * 147456 + p.val) / 147456 % 4 * 384 + (b.val * 147456 + p.val) / 384 % 384) * 384 + (b.val * 147456 + p.val) % 384
    = (b.val * 1 + 0) * 147456 + p.val
  omega

theorem index0 : ∀ t : Fin cfg0.N, win0_0.index t = ![(grid0.coords t 0).val, 0, (grid0.coords t 1).val] :=
  (by decide +kernel : ∀ t : Fin grid0.N, _)
theorem index1 : ∀ t : Fin cfg0.N, win0_1.index t = ![(grid0.coords t 0).val, 0, (grid0.coords t 1).val] :=
  (by decide +kernel : ∀ t : Fin grid0.N, _)
theorem index2 : ∀ t : Fin cfg0.N, win0_2.index t = ![(grid0.coords t 0).val, 0, (grid0.coords t 1).val] :=
  (by decide +kernel : ∀ t : Fin grid0.N, _)

/-- The binning kernel's result. -/
def codes (x : SX.Idx → EReal) (y : SY.Idx → BitVec 32) : S4x21x147456.Idx → BitVec 32 :=
  fun j => BitVec.ofNat 32 (code x y (j 1) ((j 0).val * 147456 + (j 2).val))

theorem codes_eq (hx : AllFinite (argX m d)) :
    (dat0 (F := Ideal) (V2 m) 0 d).arrAt 2 cfg0.N = codes (argX m d) (argY m d) := by
  refine (dat0 (F := Ideal) (V2 m) 0 d).arrAt_eq_of_covers 2 _ (by decide +kernel) fun t hf y => ?_
  blk_simp [index2]
  change S1x21x9216.Idx at y
  have hb : (grid0.coords t 0).val < 4 := (grid0.coords t 0).isLt
  have hs : (grid0.coords t 1).val < 16 := (grid0.coords t 1).isLt
  have hc : (y 1).val < 21 := (y 1).isLt
  have hq : (y 2).val < 9216 := (y 2).isLt
  have hy : y = ix3 (0 : Fin 1) (⟨(y 1).val, hc⟩ : Fin 21) (⟨(y 2).val, hq⟩ : Fin 9216) := by
    have h0 : (y 0).val < 1 := (y 0).isLt
    funext a
    apply Fin.ext
    match a with
    | ⟨0, _⟩ => show (y 0).val = 0; omega
    | ⟨1, _⟩ => rfl
    | ⟨2, _⟩ => rfl
  have e0 : ∀ k : Fin 21, blk0 (F := Ideal) (V2 m) d 0 t (ix3 (0 : Fin 1) k (⟨(y 2).val, hq⟩ : Fin 9216))
      = px (argX m d) ((grid0.coords t 0).val * 147456 + ((grid0.coords t 1).val * 9216 + (y 2).val)) k := fun k => by
    refine Eq.trans ?_ (V2_logits m d ⟨(grid0.coords t 0).val, hb⟩ k ⟨(grid0.coords t 1).val * 9216 + (y 2).val, by omega⟩)
    blk_simp [blk0]
    refine congrArg _ ?_
    funext a
    apply Fin.ext
    match a with
    | ⟨0, _⟩ => blk_simp [index0]
    | ⟨1, _⟩ => blk_simp [index0]
    | ⟨2, _⟩ => blk_simp [index0]
  have e1 : blk0 (F := Ideal) (V2 m) d 1 t (ix3 (0 : Fin 1) (0 : Fin 1) (⟨(y 2).val, hq⟩ : Fin 9216))
      = lb (argY m d) ((grid0.coords t 0).val * 147456 + ((grid0.coords t 1).val * 9216 + (y 2).val)) := by
    refine Eq.trans ?_ (V2_labels m d ⟨(grid0.coords t 0).val, hb⟩ ⟨(grid0.coords t 1).val * 9216 + (y 2).val, by omega⟩)
    blk_simp [blk0]
    refine congrArg _ ?_
    funext a
    apply Fin.ext
    match a with
    | ⟨0, _⟩ => blk_simp [index1]
    | ⟨1, _⟩ => blk_simp [index1]
    | ⟨2, _⟩ => blk_simp [index1]
  refine Eq.trans (congrArg (k0_pay1 (F := Ideal) (blk0 (V2 m) d 0 t) (blk0 (V2 m) d 1 t)) hy) ?_
  refine (pay_apply ⟨(y 1).val, hc⟩ (fun k => (e0 k).trans (px_coe hx _ k)) (p := isL (argY m d) ⟨(y 1).val, hc⟩ _) (by rw [e1]; rfl)).trans ?_
  have i0 : ((win0_2.blk t).view.emb y 0).val = (grid0.coords t 0).val := by blk_simp [index2]
  have i1 : (win0_2.blk t).view.emb y 1 = (⟨(y 1).val, hc⟩ : Fin 21) := Fin.ext (by blk_simp [index2])
  have i2 : ((win0_2.blk t).view.emb y 2).val = (grid0.coords t 1).val * 9216 + (y 2).val := by blk_simp [index2]
  unfold codes code
  rw [i0, i1, i2]
  rfl

/-- The class and the pixel of the flat word `f`. -/
def clsOf (f : ℕ) : Fin 21 := ⟨f / 147456 % 21, Nat.mod_lt _ (by decide)⟩
def pixOf (f : ℕ) : ℕ := f / 147456 / 21 * 147456 + f % 147456

theorem xs_apply (hx : AllFinite (argX m d)) (f : Fin 12386304) :
    xs m d (ix1 f) = BitVec.ofNat 32 (code (argX m d) (argY m d) (clsOf f.val) (pixOf f.val)) := by
  have h1 : V3 m d (Proc.devRef .tc main_v2) = codes (argX m d) (argY m d) :=
    (Pipeline.afterRegion_arr (pdats (V2 m) 0 0 d) (V2 m d) (kit 0).win.arr_inj 2).trans (codes_eq m d hx)
  have h2 : xs m d = shapeCast S12386304 (codes (argX m d) (argY m d)) shapeCasts_S4x21x147456_S12386304 := by
    unfold xs V4
    rw [StableHlo.reshape_result, h1]
    rfl
  rw [h2]
  have hf := f.isLt
  refine shapeCast_apply _ shapeCasts_S4x21x147456_S12386304 (ix1 f)
    (ix3 (⟨f.val / 147456 / 21, by omega⟩ : Fin 4) (clsOf f.val) (⟨f.val % 147456, Nat.mod_lt _ (by decide)⟩ : Fin 147456)) ?_
  rw [Shape.rowMajor_val_one, Shape.rowMajor_val_three]
  show (f.val / 147456 / 21 * 21 + f.val / 147456 % 21) * 147456 + f.val % 147456 = f.val
  omega

theorem pre_ok (hx : ∀ d, AllFinite (argX m d)) : PreOK (xs m) := fun d j => by
  have hj : j = ix1 (⟨(j 0).val, (j 0).isLt⟩ : Fin 12386304) := by
    funext a
    match a with
    | ⟨0, _⟩ => rfl
  rw [hj, xs_apply m d (hx d)]
  have := code_lt (argX m d) (argY m d) (clsOf (j 0).val) (pixOf (j 0).val)
  rw [BitVec.toNat_ofNat]
  exact lt_of_le_of_lt (Nat.mod_le _ _) this

end Array

end Cert.Proof.Whole

end
-- ==== Proof.WholeLoss.lean ====
/-
  The loss kernel's value: from histograms that count the pixels by class, label and bin, the loss at the bins' midpoints.
-/
module

public import proofs.«01_k».proof.Proof.BinCount
public import proofs.«01_k».proof.Proof.WholeBins
public import Idealize.ShloMosaic.Lib.MatmulPlain

@[expose] public section

noncomputable section

namespace Cert.Proof.Whole

open Cert.LossIdeal Cert.LossIdeal.Gen
open Idealize.ShloMosaic Idealize.ShloMosaic.ValueIdx
open Cert.Proof Cert.Proof.Image

/-! ## The histograms summed -/

section Sum

variable {x : Vec Ideal S32x2x21x1024 .i32} {t : ℕ → ℕ} {p : Fin 2} {c : Fin 21} {j : Fin 1024}

theorem add_at {s : Shape} (x y : IVec s 32) (i : s.Idx) : addi x y i = x i + y i := rfl

theorem slab_apply (hx : ∀ w : Fin 32, x (ix4 w p c j) = BitVec.ofNat 32 (t w.val)) (n : ℕ) (h : n < 32) :
    shapeCast S2x21x1024 (slab x n h) shapeCasts_S1x2x21x1024_S2x21x1024 (ix3 p c j) = BitVec.ofNat 32 (t n) := by
  refine (shapeCast_apply _ shapeCasts_S1x2x21x1024_S2x21x1024 (ix3 p c j) (ix4 (0 : Fin 1) p c j) ?_).trans (hx ⟨n, h⟩)
  rw [Shape.rowMajor_val_three, Shape.rowMajor_val_four]
  show ((0 * 2 + p.val) * 21 + c.val) * 1024 + j.val = (p.val * 21 + c.val) * 1024 + j.val
  omega

/-- The histograms of all the tasks summed. -/
def all32 (x : Vec Ideal S32x2x21x1024 .i32) : IVec S2x21x1024 32 :=
  k2_pay6 (F := Ideal) (sum25 x) (k2_pay5 (F := Ideal) (slab x 25)) (slab x 26) (slab x 27) (slab x 28) (slab x 29) (slab x 30) (slab x 31)

theorem sum8_apply (hx : ∀ w : Fin 32, x (ix4 w p c j) = BitVec.ofNat 32 (t w.val)) :
    sum8 x (ix3 p c j) = BitVec.ofNat 32 (∑ w ∈ Finset.range 8, t w) := by
  unfold sum8 k2_pay2
  simp only [add_at, slab_apply hx, Finset.sum_range_succ, Finset.sum_range_zero, zero_add, BitVec.ofNat_add]

theorem sum17_apply (hx : ∀ w : Fin 32, x (ix4 w p c j) = BitVec.ofNat 32 (t w.val)) :
    sum17 x (ix3 p c j) = BitVec.ofNat 32 (∑ w ∈ Finset.range 17, t w) := by
  unfold sum17 k2_pay3
  simp only [add_at, slab_apply hx, sum8_apply hx, Finset.sum_range_succ, Finset.sum_range_zero, zero_add, BitVec.ofNat_add]

theorem sum25_apply (hx : ∀ w : Fin 32, x (ix4 w p c j) = BitVec.ofNat 32 (t w.val)) :
    sum25 x (ix3 p c j) = BitVec.ofNat 32 (∑ w ∈ Finset.range 25, t w) := by
  unfold sum25 k2_pay4
  simp only [add_at, slab_apply hx, sum17_apply hx, Finset.sum_range_succ, Finset.sum_range_zero, zero_add, BitVec.ofNat_add]

theorem all32_apply (hx : ∀ w : Fin 32, x (ix4 w p c j) = BitVec.ofNat 32 (t w.val)) :
    all32 x (ix3 p c j) = BitVec.ofNat 32 (∑ w ∈ Finset.range 32, t w) := by
  unfold all32 k2_pay6 k2_pay5
  simp only [add_at, slab_apply hx, sum25_apply hx, Finset.sum_range_succ, Finset.sum_range_zero, zero_add, BitVec.ofNat_add]

end Sum

/-! ## Its planes and the masks, as floats -/

def plane0 (v : IVec S2x21x1024 32) : FVec Ideal S21x1024 .f32 :=
  sitofp .f32 (shapeCast S21x1024 (extractStridedSlice S1x21x1024 ![0, 0, 0] v slices_S2x21x1024_o0_0_0_S1x21x1024) shapeCasts_S1x21x1024_S21x1024)
def plane1 (v : IVec S2x21x1024 32) : FVec Ideal S21x1024 .f32 :=
  sitofp .f32 (shapeCast S21x1024 (extractStridedSlice S1x21x1024 ![1, 0, 0] v slices_S2x21x1024_o1_0_0_S1x21x1024) shapeCasts_S1x21x1024_S21x1024)
def rowNo : IVec S1024x1024 32 := iota .tc S1024x1024 32 [0] iota_S1024x1024_d0_w32
def colNo : IVec S1024x1024 32 := iota .tc S1024x1024 32 [1] iota_S1024x1024_d1_w32
def fromMask : FVec Ideal S1024x1024 .f32 := sitofp .f32 (extui 32 (cmpi .sge rowNo colNo) natLt_1_32)
def belowMask : FVec Ideal S1024x1024 .f32 := sitofp .f32 (extui 32 (cmpi .slt rowNo colNo) natLt_1_32)
def mm (l : FVec Ideal S21x1024 .f32) (r : FVec Ideal S1024x1024 .f32) : FVec Ideal S21x1024 .f32 :=
  matmul dot_S21x1024_S1024x1024_S21x1024_1_0_0_1_n_n (some .fp32) l r (constant S21x1024 .f32 0x00000000#32)
/-- The step of the index at each bin, -/
def stepAt (o : FVec Ideal S21x1024 .f32) (b : FVec Ideal S1024x1024 .f32) (t : FVec Ideal S21x1024 .f32) : FVec Ideal S21x1024 .f32 :=
  divf t (maximumf (addf t (mm o b)) (broadcast S21x1024 (Scalar.ofBits .f32 0x3F800000#32)))
/-- and all of them summed. -/
def total (v : FVec Ideal S21x1024 .f32) : EReal :=
  extractAt ![0, 0, 0] (shapeCast S1x1x1 (multiReduction .add [1, 2] S1 (shapeCast S1x21x1024 v shapeCasts_S21x1024_S1x21x1024) 0x00000000#32
    reduces_S1x21x1024_S1 (.inl rfl) rfl : FVec Ideal S1 .f32) shapeCasts_S1_S1x1x1) inpos_S1x1x1_p0_0_0

theorem tops_eq (x : Vec Ideal S32x2x21x1024 .i32) : tops x = plane1 (all32 x) := rfl
theorem below_eq : k2_pay8 (F := Ideal) = belowMask := rfl
theorem tails_eq (x : Vec Ideal S32x2x21x1024 .i32) : tails x = mm (addf (plane0 (all32 x)) (plane1 (all32 x))) fromMask := rfl
theorem out_eq (o : FVec Ideal S21x1024 .f32) (b : FVec Ideal S1024x1024 .f32) (t : FVec Ideal S21x1024 .f32) : k2_pay1 (F := Ideal) o b t
    = broadcast S1x1 (Scalar.subf (F := Ideal) (φ := .f32) (Scalar.mulf (F := Ideal) (φ := .f32) (total (stepAt o b t))
        (Named.named κ "per_bin" 0x38430C31#32)) (Scalar.ofBits .f32 0x3A000000#32)) := rfl

theorem count_coe {n : ℕ} (h : n ≤ 589824) : ((BitVec.ofNat 32 n).toInt : ℝ) = (n : ℝ) := by
  have hn : (BitVec.ofNat 32 n).toNat = n := by rw [BitVec.toNat_ofNat]; omega
  have : (BitVec.ofNat 32 n).toInt = (n : ℤ) := by
    rw [BitVec.toInt_eq_toNat_of_lt (by rw [hn]; omega), hn]
  rw [this, Int.cast_natCast]

variable {v : IVec S2x21x1024 32} {c : Fin 21} {j : Fin 1024}

theorem plane0_apply {n : ℕ} (hn : n ≤ 589824) (hv : v (ix3 (0 : Fin 2) c j) = BitVec.ofNat 32 n) : plane0 v (ix2 c j) = ((n : ℝ) : EReal) := by
  have h1 : shapeCast S21x1024 (extractStridedSlice S1x21x1024 ![0, 0, 0] v slices_S2x21x1024_o0_0_0_S1x21x1024) shapeCasts_S1x21x1024_S21x1024 (ix2 c j)
      = BitVec.ofNat 32 n := by
    refine (shapeCast_apply _ shapeCasts_S1x21x1024_S21x1024 (ix2 c j) (ix3 (0 : Fin 1) c j) ?_).trans ?_
    · rw [Shape.rowMajor_val_two, Shape.rowMajor_val_three]
      show (0 * 21 + c.val) * 1024 + j.val = c.val * 1024 + j.val
      omega
    refine (extractStridedSlice_apply _ _ slices_S2x21x1024_o0_0_0_S1x21x1024 (ix3 (0 : Fin 1) c j) (ix3 (0 : Fin 2) c j) fun a => ?_).trans hv
    match a with
    | ⟨0, _⟩ => rfl
    | ⟨1, _⟩ => exact (Nat.zero_add _).symm
    | ⟨2, _⟩ => exact (Nat.zero_add _).symm
  unfold plane0
  rw [sitofp_apply, h1]
  exact congrArg (fun r : ℝ => (r : EReal)) (count_coe hn)

theorem plane1_apply {n : ℕ} (hn : n ≤ 589824) (hv : v (ix3 (1 : Fin 2) c j) = BitVec.ofNat 32 n) : plane1 v (ix2 c j) = ((n : ℝ) : EReal) := by
  have h1 : shapeCast S21x1024 (extractStridedSlice S1x21x1024 ![1, 0, 0] v slices_S2x21x1024_o1_0_0_S1x21x1024) shapeCasts_S1x21x1024_S21x1024 (ix2 c j)
      = BitVec.ofNat 32 n := by
    refine (shapeCast_apply _ shapeCasts_S1x21x1024_S21x1024 (ix2 c j) (ix3 (0 : Fin 1) c j) ?_).trans ?_
    · rw [Shape.rowMajor_val_two, Shape.rowMajor_val_three]
      show (0 * 21 + c.val) * 1024 + j.val = c.val * 1024 + j.val
      omega
    refine (extractStridedSlice_apply _ _ slices_S2x21x1024_o1_0_0_S1x21x1024 (ix3 (0 : Fin 1) c j) (ix3 (1 : Fin 2) c j) fun a => ?_).trans hv
    match a with
    | ⟨0, _⟩ => rfl
    | ⟨1, _⟩ => exact (Nat.zero_add _).symm
    | ⟨2, _⟩ => exact (Nat.zero_add _).symm
  unfold plane1
  rw [sitofp_apply, h1]
  exact congrArg (fun r : ℝ => (r : EReal)) (count_coe hn)

theorem small_toInt (i : Fin 1024) : (BitVec.ofNat 32 i.val).toInt = (i.val : ℤ) := by
  have hi := i.isLt
  have hn : (BitVec.ofNat 32 i.val).toNat = i.val := by rw [BitVec.toNat_ofNat]; omega
  rw [BitVec.toInt_eq_toNat_of_lt (by rw [hn]; omega), hn]

theorem bit_coe (p : Prop) [Decidable p] : ((((BitVec.ofBool (decide p)).setWidth 32).toInt : ℝ) : EReal) = (((if p then 1 else 0 : ℝ)) : EReal) := by
  by_cases h : p
  · rw [decide_eq_true h, if_pos h]
    rw [show ((BitVec.ofBool true).setWidth 32).toInt = 1 by decide, Int.cast_one]
  · rw [decide_eq_false h, if_neg h]
    rw [show ((BitVec.ofBool false).setWidth 32).toInt = 0 by decide, Int.cast_zero]

theorem fromMask_apply (i k : Fin 1024) : fromMask (ix2 i k) = (((if k.val ≤ i.val then 1 else 0 : ℝ)) : EReal) := by
  have h0 : rowNo (ix2 i k) = BitVec.ofNat 32 i.val := iota_single_apply _ _ _ _ _ _
  have h1 : colNo (ix2 i k) = BitVec.ofNat 32 k.val := iota_single_apply _ _ _ _ _ _
  unfold fromMask
  rw [sitofp_apply, extui_apply]
  show ((((BitVec.ofBool ((colNo (ix2 i k)).sle (rowNo (ix2 i k)))).setWidth 32).toInt : ℝ) : EReal) = _
  rw [h0, h1, ← bit_coe, BitVec.sle_eq_decide, small_toInt, small_toInt]
  simp only [Nat.cast_le]

theorem belowMask_apply (i k : Fin 1024) : belowMask (ix2 i k) = (((if i.val < k.val then 1 else 0 : ℝ)) : EReal) := by
  have h0 : rowNo (ix2 i k) = BitVec.ofNat 32 i.val := iota_single_apply _ _ _ _ _ _
  have h1 : colNo (ix2 i k) = BitVec.ofNat 32 k.val := iota_single_apply _ _ _ _ _ _
  unfold belowMask
  rw [sitofp_apply, extui_apply]
  show ((((BitVec.ofBool ((rowNo (ix2 i k)).slt (colNo (ix2 i k)))).setWidth 32).toInt : ℝ) : EReal) = _
  rw [h0, h1, ← bit_coe, BitVec.slt_eq_decide, small_toInt, small_toInt]
  simp only [Nat.cast_lt]

theorem mm_apply {l : FVec Ideal S21x1024 .f32} {r : FVec Ideal S1024x1024 .f32} {f g : Fin 1024 → ℝ}
    (hl : ∀ k, l (ix2 c k) = (f k : EReal)) (hr : ∀ k, r (ix2 k j) = (g k : EReal)) : mm l r (ix2 c j) = ((∑ k, f k * g k : ℝ) : EReal) := by
  refine (Ideal.matmul_plain_apply (M := 21) (K := 1024) (N := 1024) (some .fp32) l r _ c j).trans ?_
  show Ideal.ofBits .f32 0x00000000#32 + _ = _
  rw [Ideal.ofBits_zero_f32, zero_add, ← Pixel.sum_coe]
  exact Finset.sum_congr rfl fun k _ => by rw [hl, hr, EReal.coe_mul]

/-! ## The loss -/

section Loss

variable {x : SX.Idx → EReal} {y : SY.Idx → BitVec 32}
variable (hv : ∀ (p : Fin 2) (c : Fin 21) (j : Fin 1024), v (ix3 p c j) = BitVec.ofNat 32 (BinCount.cnt (hot y c) (bn x y c) p.val j.val))
include hv

theorem tails_apply (c : Fin 21) (j : Fin 1024) :
    mm (addf (plane0 v) (plane1 v)) fromMask (ix2 c j) = ((Lovasz.K N (bn x y c) j.val : ℝ) : EReal) := by
  rw [← BinCount.upper (bn_lt x y c) (hot_le y c) j.val]
  refine mm_apply (fun k => ?_) (fun k => fromMask_apply k j)
  rw [addf_apply, plane0_apply (BinCount.cnt_le _ _ _ _) (hv 0 c k), plane1_apply (BinCount.cnt_le _ _ _ _) (hv 1 c k)]
  exact (EReal.coe_add _ _).symm

theorem below_apply (c : Fin 21) (j : Fin 1024) : mm (plane1 v) belowMask (ix2 c j) = ((Lovasz.B N (bn x y c) (hot y c) j.val : ℝ) : EReal) := by
  rw [← BinCount.lower (bn_lt x y c) (hot_le y c) j.val]
  exact mm_apply (fun k => plane1_apply (BinCount.cnt_le _ _ _ _) (hv 1 c k)) (fun k => belowMask_apply k j)

theorem step_apply (c : Fin 21) (j : Fin 1024) :
    stepAt (plane1 v) belowMask (mm (addf (plane0 v) (plane1 v)) fromMask) (ix2 c j) = (jac x y c j.val : EReal) := by
  unfold stepAt
  rw [divf_apply, maximumf_apply, addf_apply, tails_apply hv, below_apply hv]
  show Ideal.div _ (max _ (Ideal.ofBits .f32 0x3F800000#32)) = _
  rw [Pixel.fone, ← EReal.coe_add, ← EReal.coe_strictMono.monotone.map_max]
  exact Pixel.div_coe (ne_of_gt (lt_of_lt_of_le one_pos (le_max_right _ _)))

omit hv in
theorem total_eq {u : FVec Ideal S21x1024 .f32} {g : Fin 21 → Fin 1024 → ℝ} (hu : ∀ c j, u (ix2 c j) = (g c j : EReal)) :
    total u = ((∑ c, ∑ j, g c j : ℝ) : EReal) := by
  have h1 : ∀ k, (multiReduction .add [1, 2] S1 (shapeCast S1x21x1024 u shapeCasts_S21x1024_S1x21x1024) 0x00000000#32
      reduces_S1x21x1024_S1 (.inl rfl) rfl : FVec Ideal S1 .f32) k = ((∑ c, ∑ j, g c j : ℝ) : EReal) := fun k => by
    refine (Ideal.multiReduction_add_total _ _ reduces_S1x21x1024_S1 (by decide) _ _ k).trans ?_
    unfold shapeCast
    rw [Equiv.sum_comp (Shape.reshapeEquiv shapeCasts_S21x1024_S1x21x1024) u, sum_idx2 u, ← Pixel.sum_coe]
    exact Finset.sum_congr rfl fun c _ => (Finset.sum_congr rfl fun j _ => hu c j).trans (Pixel.sum_coe _ _)
  exact h1 _

theorem out_apply :
    k2_pay1 (F := Ideal) (plane1 v) belowMask (mm (addf (plane0 v) (plane1 v)) fromMask) = fun _ => (loss x y : EReal) := by
  rw [out_eq, total_eq (step_apply hv), Image.loss_eq, EReal.coe_sub, EReal.coe_mul]
  funext _
  show _ * (Named.named (F := Ideal) κ "per_bin" (φ := .f32) 0x38430C31#32 : EReal) - Ideal.ofBits .f32 0x3A000000#32 = _
  rw [Pixel.fhalfbin]
  rfl

end Loss

/-! ## The result -/

section Result

variable (m : (ℓ : Loc nD τ sig) → Buf (Elt Ideal) ℓ) (d : Dev nD)

/-- The histograms, as the loss kernel reads them. -/
def hists : S32x2x21x1024.Idx → BitVec 32 := V6 m d (Proc.devRef .tc main_v5)

theorem indexH : ∀ t : Fin cfg2.N, win2_0.index t = ![0, 0, 0, 0] := (by decide +kernel : ∀ t : Fin grid2.N, _)

/-- The words of task `w` that name a bin. -/
def inTask (p : Fin 2) (c : Fin 21) (j : Fin 1024) (w : ℕ) : ℕ :=
  ((Finset.range 387072).filter fun n => (word (xs m d) (387072 * w + n)).toNat = p.val * 21504 + c.val * 1024 + j.val).card

theorem hists_apply (w : Fin 32) (p : Fin 2) (c : Fin 21) (j : Fin 1024) :
    hists m d (ix4 w p c j) = BitVec.ofNat 32 (inTask m d p c j w.val) := by
  have h1 : hists m d = shapeCast S32x2x21x1024 (histArr (xs m d)) shapeCasts_S32x43008_S32x2x21x1024 := by
    unfold hists V6
    rw [StableHlo.reshape_result]
    unfold V5
    rw [Function.update_self]
    rfl
  rw [h1]
  have hp := p.isLt
  have hc := c.isLt
  have hj := j.isLt
  refine shapeCast_apply _ shapeCasts_S32x43008_S32x2x21x1024 (ix4 w p c j)
    (ix2 w (⟨p.val * 21504 + c.val * 1024 + j.val, by omega⟩ : Fin 43008)) ?_
  rw [Shape.rowMajor_val_two, Shape.rowMajor_val_four]
  show w.val * 43008 + (p.val * 21504 + c.val * 1024 + j.val) = ((w.val * 2 + p.val) * 21 + c.val) * 1024 + j.val
  omega

variable {m d} (hx : AllFinite (argX m d))
include hx

theorem inTask_sum (p : Fin 2) (c : Fin 21) (j : Fin 1024) :
    ∑ w ∈ Finset.range 32, inTask m d p c j w = BinCount.cnt (hot (argY m d) c) (bn (argX m d) (argY m d) c) p.val j.val := by
  unfold inTask
  rw [BinCount.card_tasks (fun f => (word (xs m d) f).toNat = p.val * 21504 + c.val * 1024 + j.val)]
  refine Eq.trans ?_ (BinCount.card_flat (fun c => hot (argY m d) (Fin.ofNat 21 c)) (fun c => bn (argX m d) (argY m d) (Fin.ofNat 21 c))
    (fun _ => bn_lt _ _ _) (fun _ => hot_le _ _) p.isLt c.isLt j.isLt |>.trans ?_)
  · rw [show 32 * 387072 = 4 * (21 * 147456) by norm_num]
    refine congrArg Finset.card (Finset.filter_congr fun f hf => ?_)
    have hf : f < 12386304 := lt_of_lt_of_eq (Finset.mem_range.mp hf) (by norm_num)
    have h1 : (word (xs m d) f).toNat = code (argX m d) (argY m d) (clsOf f) (pixOf f) := by
      unfold word
      rw [dif_pos hf, xs_apply m d hx ⟨f, hf⟩, BitVec.toNat_ofNat]
      exact Nat.mod_eq_of_lt (lt_trans (code_lt _ _ _ _) (by norm_num))
    rw [h1]
    have h2 : (Fin.ofNat 21 (f / 147456 % 21)) = clsOf f := Fin.ext (Nat.mod_mod _ _)
    rw [h2]
    rfl
  · have h3 : Fin.ofNat 21 c.val = c := Fin.ext (Nat.mod_eq_of_lt c.isLt)
    rw [h3]

theorem loss_value : lossOut (F := Ideal) (hists m d) = fun _ => (loss (argX m d) (argY m d) : EReal) := by
  unfold lossOut
  rw [tops_eq, below_eq, tails_eq]
  refine out_apply fun p c j => ?_
  rw [all32_apply (fun w => hists_apply m d w p c j), inTask_sum hx]

theorem out_arr : (dat2 (F := Ideal) (V6 m) 1 d).arrAt 1 cfg2.N = fun _ => (loss (argX m d) (argY m d) : EReal) := by
  refine (dat2 (F := Ideal) (V6 m) 1 d).arrAt_eq_of_covers 1 _ (by decide +kernel) fun t hf y => ?_
  have h1 : blk2 (F := Ideal) (V6 m) d 0 t = hists m d := by
    funext j
    blk_simp [blk2]
    unfold hists
    refine congrArg _ ?_
    funext a
    apply Fin.ext
    match a with
    | ⟨0, _⟩ => blk_simp [indexH]
    | ⟨1, _⟩ => blk_simp [indexH]
    | ⟨2, _⟩ => blk_simp [indexH]
    | ⟨3, _⟩ => blk_simp [indexH]
  show lossOut (F := Ideal) (blk2 (V6 m) d 0 t) y = _
  rw [h1, loss_value hx]

/-- The program's result: the loss at the bins' midpoints. -/
theorem result_value : V8 m d (Proc.devRef .tc main_v7) = fun _ => (loss (argX m d) (argY m d) : EReal) := by
  have h1 : V7 m d (Proc.devRef .tc main_v6) = fun _ => (loss (argX m d) (argY m d) : EReal) :=
    (Pipeline.afterRegion_arr (pdats (V6 m) 1 1 d) (V6 m d) (kit 1).win.arr_inj 1).trans (out_arr hx)
  unfold V8
  rw [StableHlo.reshape_result, h1]
  rfl

omit hx in
/-- A buffer that no step writes is as launched. -/
theorem untouched (b : Ref sig .tc) (hb : b ∉ ({main_v0, main_v1, main_v2, main_v3, main_v4, main_v5, main_v6, main_v7} : Finset (Ref sig .tc)))
    (h0 : ∀ w, b ≠ Pipeline.arrRef (Pipeline.pin (pcfgs (F := Ideal)) adm 0).spec w) (h1 : ∀ w, b ≠ Pipeline.arrRef (Pipeline.pin (pcfgs (F := Ideal)) adm 1).spec w) :
    V8 m d (Proc.devRef .tc b) = m ((d.tc : Thread nD τ).loc b) := by
  simp only [Finset.mem_insert, Finset.mem_singleton, not_or] at hb
  unfold V8
  rw [StableHlo.reshape_result_ne _ _ _ _ _ _ _ hb.2.2.2.2.2.2.2]
  refine (Pipeline.afterRegion_of_not_arr (pdats (V6 m) 1 1 d) (V6 m d) h1).trans ?_
  unfold V6
  rw [StableHlo.reshape_result_ne _ _ _ _ _ _ _ hb.2.2.2.2.2.1]
  unfold V5
  rw [Function.update_of_ne (StableHlo.devRef_ne_of_ne hb.2.2.2.2.1)]
  unfold V4
  rw [StableHlo.reshape_result_ne _ _ _ _ _ _ _ hb.2.2.2.1]
  refine (Pipeline.afterRegion_of_not_arr (pdats (V2 m) 0 0 d) (V2 m d) h0).trans ?_
  unfold V2
  rw [StableHlo.reshape_result_ne _ _ _ _ _ _ _ hb.2.1, StableHlo.reshape_result_ne _ _ _ _ _ _ _ hb.1]
  rfl

omit hx in
theorem kept_logits : V8 m d (Proc.devRef .tc main_arg0) = argX m d := untouched main_arg0 (by decide) (by decide) (by decide)
omit hx in
theorem kept_labels : V8 m d (Proc.devRef .tc main_arg1) = argY m d := untouched main_arg1 (by decide) (by decide) (by decide)

end Result

end Cert.Proof.Whole

end
-- ==== Proof.RefBins.lean ====
/-
  The reference of the whole kernel, to the sort: the one-hot labels and the midpoints of the errors' bins, read at a class and
  a pixel.
-/
module

public import proofs.«01_k».proof.Proof.Image
public import proofs.«01_k».proof.Proof.Gen.LossReferenceIdeal
public import Idealize.ShloMosaic.Lib.KernelVsHost
public import Idealize.ShloMosaic.Lib.Pipeline.Value

@[expose] public section

noncomputable section

namespace Cert.Proof.LossRef

open Cert.LossReferenceIdeal Cert.LossReferenceIdeal.Gen
open Idealize.ShloMosaic Idealize.ShloMosaic.ValueIdx
open Cert.Proof Cert.Proof.Image

/-! ## The stages -/

abbrev Arr : Type := FVec Ideal S21x589824 .f32

/-- A row laid along every class. -/
abbrev rows {α : Type} (v : S589824.Idx → α) : S21x589824.Idx → α :=
  broadcastInDim S21x589824 ![0, 1] bcast_S1x589824_S21x589824_0_1 (broadcastInDim S1x589824 ![1] bcast_S589824_S1x589824_1 v)
/-- A number everywhere. -/
abbrev all (b : BitVec 32) : Arr := broadcastInDim S21x589824 ![] bcast_S_S21x589824 (constant S_ .f32 b)

def logits (x : FVec Ideal S4x21x384x384 .f32) : Arr :=
  shapeCast _ (transpose S21x4x384x384 [1, 0, 2, 3] x transposes_S4x21x384x384_S21x4x384x384_1_0_2_3) shapeCasts_S21x4x384x384_S21x589824
def labels (y : IVec S4x384x384 32) : IVec S589824 32 := shapeCast _ y shapeCasts_S4x384x384_S589824
def peak (l : Arr) : FVec Ideal S589824 .f32 :=
  maximumf (broadcastInDim S589824 ![] bcast_S_S589824 (constant S_ .f32 0xFF800000#32))
    (Host.reduce FloatOps.maximumf l (constant S_ .f32 0xFF800000#32) reducesTo_S21x589824_S589824_d0 h_S_)
def exps (l : Arr) : Arr := Host.exp (subf l (rows (peak l)))
def probs (l : Arr) : Arr :=
  Host.divf (exps l) (rows (Host.reduceAdd (exps l) (constant S_ .f32 0x00000000#32) reducesTo_S21x589824_S589824_d0 h_S_))
def hots (v : IVec S589824 32) : Arr :=
  uitofp .f32 (cmpi .eq (rows v) (broadcastInDim S21x589824 ![0, 1] bcast_S21x1_S21x589824_0_1 (iotaInDim S21x1 32 0)))
def mids (h p : Arr) : Arr :=
  Host.divf (addf (minimumf (Host.floor (mulf (Host.absf (subf h p)) (all 0x44800000#32))) (all 0x447FC000#32)) (all 0x3F000000#32)) (all 0x44800000#32)

/-! ## Read at a class and a pixel -/

theorem rows_apply {α : Type} (v : S589824.Idx → α) (c : Fin 21) (i : Fin 589824) : rows v (ix2 c i) = v (ix1 i) := by
  refine (broadcastInDim_oneRow_apply bcast_S1x589824_S21x589824_0_1 _ c i).trans ?_
  exact broadcastInDim_apply _ bcast_S589824_S1x589824_1 v _ (ix1 i) (fun a => by
    match a with
    | ⟨0, _⟩ => exact (if_neg (by decide : ¬ (589824 : ℕ) = 1)).symm)

theorem all_apply (b : BitVec 32) (j : S21x589824.Idx) : all b j = Ideal.ofBits .f32 b :=
  broadcastInDim_scalar_apply _ _ j

variable (x : SX.Idx → EReal) (y : SY.Idx → BitVec 32) (c : Fin 21) (i : Fin 589824)

theorem logits_apply : logits x (ix2 c i) = px x i.val c := by
  have hi := i.isLt
  refine (shapeCast_apply _ shapeCasts_S21x4x384x384_S21x589824 (ix2 c i)
    (ix4 c (⟨i.val / 147456 % 4, Nat.mod_lt _ (by decide)⟩ : Fin 4) (⟨i.val / 384 % 384, Nat.mod_lt _ (by decide)⟩ : Fin 384)
      (⟨i.val % 384, Nat.mod_lt _ (by decide)⟩ : Fin 384)) ?_).trans ?_
  · rw [Shape.rowMajor_val_two, Shape.rowMajor_val_four]
    show ((c.val * 4 + i.val / 147456 % 4) * 384 + i.val / 384 % 384) * 384 + i.val % 384 = c.val * 589824 + i.val
    omega
  · exact transpose_apply _ x _ _ _ (fun b => by
      match b with
      | ⟨0, _⟩ => rfl
      | ⟨1, _⟩ => rfl
      | ⟨2, _⟩ => rfl
      | ⟨3, _⟩ => rfl)

theorem labels_apply : labels y (ix1 i) = lb y i.val := by
  have hi := i.isLt
  refine shapeCast_apply _ shapeCasts_S4x384x384_S589824 (ix1 i) _ ?_
  rw [Shape.rowMajor_val_one, Shape.rowMajor_val_three]
  show (i.val / 147456 % 4 * 384 + i.val / 384 % 384) * 384 + i.val % 384 = i.val
  omega

variable {x}

theorem floor_apply {s : Shape} (a : FVec Ideal s .f32) (i : s.Idx) : Host.floor a i = Ideal.hostUnary .floor (a i) := rfl
theorem exp_apply {s : Shape} (a : FVec Ideal s .f32) (i : s.Idx) : Host.exp a i = Ideal.exp (a i) := rfl
theorem absf_apply {s : Shape} (a : FVec Ideal s .f32) (i : s.Idx) : Host.absf a i = max (a i) (-(a i)) := rfl

theorem reduces0 : S21x589824.Reduces [0] S589824 := by decide

theorem lift0 (k : Fin 21) : reduces0.lift (ix1 i) k = ix2 k i := by
  funext a
  match a with
  | ⟨0, _⟩ => rfl
  | ⟨1, _⟩ => rfl

theorem peak_apply (hx : AllFinite x) : peak (logits x) (ix1 i) = (Pixel.top (lr x i.val) : EReal) := by
  have h1 : Host.reduce FloatOps.maximumf (logits x) (constant S_ .f32 0xFF800000#32) reducesTo_S21x589824_S589824_d0 h_S_ (ix1 i)
      = (Pixel.top (lr x i.val) : EReal) := by
    refine (congrFun (hostReduce_maximumf_eq_multiReduction (logits x) 0xFF800000#32 _ h_S_ reduces0 (.inl rfl) rfl) _).trans ?_
    refine (Ideal.multiReduction_maximumf_single _ _ _ _ _ _).trans ?_
    show Finset.univ.fold max (Ideal.ofBits .f32 0xFF800000#32) _ = _
    rw [Pixel.fbot]
    exact Pixel.fold_max _ (fun k => ((congrArg (logits x) (lift0 i k)).trans (logits_apply x k i)).trans (px_coe hx _ _))
  unfold peak
  rw [maximumf_apply, h1]
  refine (congrArg (max · _) ((broadcastInDim_scalar_apply _ _ _).trans Pixel.fbot)).trans ?_
  exact max_eq_right bot_le

theorem exps_apply (hx : AllFinite x) :
    exps (logits x) (ix2 c i) = Ideal.exp (px x i.val c - (Pixel.top (lr x i.val) : EReal)) := by
  unfold exps
  rw [exp_apply, subf_apply, rows_apply, peak_apply _ hx, logits_apply]

theorem probs_apply (hx : AllFinite x) : probs (logits x) (ix2 c i) = (Pixel.prob (lr x i.val) c : EReal) := by
  unfold probs
  rw [hostDivf_apply]
  rw [rows_apply, exps_apply _ _ hx]
  have hs : Host.reduceAdd (exps (logits x)) (constant S_ .f32 0x00000000#32) reducesTo_S21x589824_S589824_d0 h_S_ (ix1 i)
      = ∑ k : Fin 21, Ideal.exp (px x i.val k - (Pixel.top (lr x i.val) : EReal)) := by
    refine (hostReduceAdd_apply _ _ _ _ _).trans ?_
    rw [Ideal.hostReduceAdd_single _ reduces0]
    show Ideal.ofBits .f32 0x00000000#32 + _ = _
    rw [Ideal.ofBits_zero_f32, zero_add]
    exact Finset.sum_congr rfl fun k _ => (congrArg (exps (logits x)) (lift0 i k)).trans (exps_apply k i hx)
  rw [hs]
  exact Pixel.soft _ (px_coe hx i.val) c

theorem hots_apply : hots (labels y) (ix2 c i) = ((bif isL y c i.val then 1 else 0 : ℝ) : EReal) := by
  have h2 : broadcastInDim S21x589824 ![0, 1] bcast_S21x1_S21x589824_0_1 (iotaInDim S21x1 32 0) (ix2 c i) = BitVec.ofNat 32 c.val :=
    broadcastInDim_apply _ bcast_S21x1_S21x589824_0_1 _ _ (ix2 c (0 : Fin 1)) (fun a => by
      match a with
      | ⟨0, _⟩ => exact (if_neg (by decide : ¬ (21 : ℕ) = 1)).symm
      | ⟨1, _⟩ => exact (if_pos rfl).symm)
  show (((BitVec.ofBool (rows (labels y) (ix2 c i) == _)).toNat : ℝ) : EReal) = _
  rw [rows_apply, h2, labels_apply]
  unfold isL
  by_cases h : lb y i.val = BitVec.ofNat 32 c.val
  · simp [h]
  · simp [h]

theorem mids_apply (hx : AllFinite x) :
    mids (hots (labels y)) (probs (logits x)) (ix2 c i) = (Pixel.mid (bn x y c i.val) : EReal) := by
  have ha : Host.absf (subf (hots (labels y)) (probs (logits x))) (ix2 c i) = (Pixel.err (lr x i.val) (isL y c i.val) c : EReal) := by
    rw [absf_apply, subf_apply, hots_apply, probs_apply c i hx]
    exact Pixel.abs_eq _ _ _
  have hf : Host.floor (mulf (Host.absf (subf (hots (labels y)) (probs (logits x)))) (all 0x44800000#32)) (ix2 c i)
      = Ideal.hostUnary .floor ((Pixel.err (lr x i.val) (isL y c i.val) c : EReal) * ((1024 : ℝ) : EReal)) := by
    rw [floor_apply, mulf_apply, ha, all_apply, Pixel.f1024]
  unfold mids
  rw [hostDivf_apply, addf_apply, minimumf_apply, hf, all_apply, all_apply, all_apply, Pixel.f1024, Pixel.f1023, Pixel.fhalf]
  exact Pixel.mid_eq _ _ _

end Cert.Proof.LossRef
-- ==== Proof.RefSort.lean ====
/-
  The reference's sort and running sums: the sort by descending midpoint reads both its payloads through one permutation of a
  class's pixels, along which the bins do not rise; a running sum is the sum up to its place.
-/
module

public import proofs.«01_k».proof.Proof.RefBins
public import Idealize.ShloMosaic.Lib.SortFacts

@[expose] public section

noncomputable section

namespace Cert.Proof.LossRef

open Cert.LossReferenceIdeal Cert.LossReferenceIdeal.Gen
open Idealize.ShloMosaic Idealize.ShloMosaic.ValueIdx
open Cert.Proof Cert.Proof.Image

/-! ## The sort -/

theorem canon (a : EReal) :
    Scalar.select (Ideal.cmp .une a a) (Ideal.ofBits .f32 0x7FC00000#32)
      (Scalar.select (Ideal.cmp .oeq a (Ideal.ofBits .f32 0x00000000#32)) (Ideal.ofBits .f32 0x00000000#32) a) = a := by
  have h1 : Ideal.cmp .une a a = 0#1 := by unfold Ideal.cmp; simp
  rw [h1, select_zero, Ideal.ofBits_zero_f32]
  by_cases h : a = 0
  · subst h
    have h2 : Ideal.cmp .oeq (0 : EReal) 0 = 1#1 := by unfold Ideal.cmp; simp
    rw [h2, select_one]
  · have h2 : Ideal.cmp .oeq a (0 : EReal) = 0#1 := by unfold Ideal.cmp; simp [h]
    rw [h2, select_zero]

theorem before_iff (l r : EReal × EReal × EReal) :
    comparator_f32_f32_f32_d1 (F := Ideal) l r = 1#1 ↔ l.1 < r.1 := by
  have h : comparator_f32_f32_f32_d1 (F := Ideal) l r = Ideal.cmp .olt
      (Scalar.select (Ideal.cmp .une l.1 l.1) (Ideal.ofBits .f32 0x7FC00000#32)
        (Scalar.select (Ideal.cmp .oeq l.1 (Ideal.ofBits .f32 0x00000000#32)) (Ideal.ofBits .f32 0x00000000#32) l.1))
      (Scalar.select (Ideal.cmp .une r.1 r.1) (Ideal.ofBits .f32 0x7FC00000#32)
        (Scalar.select (Ideal.cmp .oeq r.1 (Ideal.ofBits .f32 0x00000000#32)) (Ideal.ofBits .f32 0x00000000#32) r.1)) := rfl
  rw [h, canon, canon]
  unfold Ideal.cmp
  by_cases h : l.1 < r.1
  · simp [h]
  · simp [h]

theorem along1 (c : Fin 21) (i k : Fin 589824) : (ix2 c i : S21x589824.Idx).along (1 : Fin 2) k = ix2 c k := by
  funext a
  match a with
  | ⟨0, _⟩ => rfl
  | ⟨1, _⟩ => rfl

/-- The place a class's `k`-th pixel in the order comes from. -/
def perm (e v h : Arr) (c : Fin 21) : Fin 589824 → Fin 589824 :=
  sortedFrom fun k k' => comparator_f32_f32_f32_d1 (F := Ideal) (e (ix2 c k), v (ix2 c k), h (ix2 c k)) (e (ix2 c k'), v (ix2 c k'), h (ix2 c k')) == 1#1

def sort (e v h : Arr) : Arr × Arr × Arr := Host.sort3 S21x589824 1 (comparator_f32_f32_f32_d1 (F := Ideal)) e v h

theorem sort_apply1 (e v h : Arr) (c : Fin 21) (k : Fin 589824) : (sort e v h).2.1 (ix2 c k) = v (ix2 c (perm e v h c k)) := by
  unfold sort Host.sort3
  rw [dif_pos (by decide : 1 < S21x589824.rank)]
  refine (congrArg v (along1 c k _)).trans ?_
  unfold perm
  refine congrArg (fun s : Fin 589824 → Fin 589824 => v (ix2 c (s k))) (congrArg (sortedFrom (n := 589824)) (funext fun a => funext fun b =>
    congrArg₂ (fun p q : S21x589824.Idx => comparator_f32_f32_f32_d1 (F := Ideal) (e p, v p, h p) (e q, v q, h q) == 1#1)
      (along1 c k a) (along1 c k b)))

theorem sort_apply2 (e v h : Arr) (c : Fin 21) (k : Fin 589824) : (sort e v h).2.2 (ix2 c k) = h (ix2 c (perm e v h c k)) := by
  unfold sort Host.sort3
  rw [dif_pos (by decide : 1 < S21x589824.rank)]
  refine (congrArg h (along1 c k _)).trans ?_
  unfold perm
  refine congrArg (fun s : Fin 589824 → Fin 589824 => h (ix2 c (s k))) (congrArg (sortedFrom (n := 589824)) (funext fun a => funext fun b =>
    congrArg₂ (fun p q : S21x589824.Idx => comparator_f32_f32_f32_d1 (F := Ideal) (e p, v p, h p) (e q, v q, h q) == 1#1)
      (along1 c k a) (along1 c k b)))

theorem perm_bijective (e v h : Arr) (c : Fin 21) : Function.Bijective (perm e v h c) :=
  ⟨sortedFrom_injective _, sortedFrom_surjective _⟩

theorem perm_sorted (e v h : Arr) (c : Fin 21) (k k' : Fin 589824) (hk : k ≤ k') :
    e (ix2 c (perm e v h c k)) ≤ e (ix2 c (perm e v h c k')) := by
  rcases hk.lt_or_eq with hlt | rfl
  · have hb := sortedFrom_noInversion
      (fun k k' => comparator_f32_f32_f32_d1 (F := Ideal) (e (ix2 c k), v (ix2 c k), h (ix2 c k)) (e (ix2 c k'), v (ix2 c k'), h (ix2 c k')) == 1#1)
      (fun k k' => comparator_f32_f32_f32_d1 (F := Ideal) (e (ix2 c k), v (ix2 c k), h (ix2 c k)) (e (ix2 c k'), v (ix2 c k'), h (ix2 c k')) == 1#1)
      (fun a b hab => by
        rw [beq_eq_false_iff_ne]; intro hba
        exact absurd ((before_iff _ _).mp (eq_of_beq hab)) (not_lt.mpr ((before_iff _ _).mp hba).le))
      (fun _ _ hab => hab)
      (fun a b d hab hbd => by
        rw [beq_eq_false_iff_ne] at hab hbd ⊢
        have h1 := not_lt.mp fun h => hab ((before_iff _ _).mpr h)
        have h2 := not_lt.mp fun h => hbd ((before_iff _ _).mpr h)
        exact fun h => absurd ((before_iff _ _).mp h) (not_lt.mpr (le_trans h2 h1)))
      k k' hlt
    rw [beq_eq_false_iff_ne] at hb
    exact not_lt.mp fun h => hb ((before_iff _ _).mpr h)
  · exact le_refl _

/-! ## The running sums -/

def csum (v : Arr) : Arr :=
  Host.reduceWindowAdd ![1, 589824] ![1, 1] ![0, 589823] ![0, 0] v (broadcastInDim S_ ![] bcast_S_S_ (constant S_ .f32 0x00000000#32))
    reduceWindows_S21x589824_S21x589824_w1s1p0_0_w589824s1p589823_0 h_S_

theorem foldl_add_eq {n : ℕ} (g : Fin n → EReal) (a : EReal) : (List.finRange n).foldl (fun r k => r + g k) a = a + ∑ k, g k := by
  have h : ∀ (l : List (Fin n)) (a : EReal), l.foldl (fun r k => r + g k) a = a + (l.map g).sum := by
    intro l
    induction l with
    | nil => intro a; simp
    | cons b l ih => intro a; rw [List.foldl_cons, ih, List.map_cons, List.sum_cons, add_assoc]
  rw [h, Fin.sum_univ_def]

/-- The sum over a window of `M` places that ends at `k` and starts, but for the padding, at the row's first. -/
theorem window_sum (Z : ℕ → EReal) {M k : ℕ} (hk : k < M) :
    (∑ n ∈ Finset.range M, if M - 1 ≤ k + n then Z (k + n - (M - 1)) else 0) = ∑ n ∈ Finset.range (k + 1), Z n := by
  have hM : M = (M - (k + 1)) + (k + 1) := by omega
  conv_lhs => rw [hM]
  rw [Finset.sum_range_add]
  rw [Finset.sum_eq_zero (fun n hn => by
    have := Finset.mem_range.mp hn
    rw [if_neg (by omega)]), zero_add]
  refine Finset.sum_congr rfl fun n hn => ?_
  have := Finset.mem_range.mp hn
  rw [if_pos (by omega)]
  congr 1; omega

theorem csum_apply (v : Arr) (c : Fin 21) (Z : ℕ → EReal) (hZ : ∀ k : Fin 589824, v (ix2 c k) = Z k.val) (k : Fin 589824) :
    csum v (ix2 c k) = ∑ n ∈ Finset.range (k.val + 1), Z n := by
  unfold csum Host.reduceWindowAdd
  rw [Ideal.hostReduceWindowAdd_def]
  unfold Ideal.hostReduceWindowAdd Host.reduceWindow
  dsimp only
  rw [foldl_add_eq, ← Equiv.sum_comp (Shape.rowMajor _)]
  simp only [Equiv.symm_apply_apply]
  have hv : broadcastInDim S_ ![] bcast_S_S_ (constant (F := Ideal) S_ .f32 0x00000000#32) (Shape.Idx.first h_S_) = (0 : EReal) := Ideal.ofBits_zero_f32
  rw [hv, zero_add]
  refine (sum_idx2 (n0 := 1) (n1 := 589824) _).trans ?_
  rw [Fin.sum_univ_one, ← window_sum Z k.isLt, Finset.sum_range]
  refine Finset.sum_congr rfl fun n _ => ?_
  by_cases hn : 589824 - 1 ≤ k.val + n.val
  · rw [if_pos hn, dif_pos]
    · rw [← hZ ⟨k.val + n.val - (589824 - 1), by have := n.isLt; have := k.isLt; omega⟩]
      refine congrArg v ?_
      funext a
      apply Fin.ext
      match a with
      | ⟨0, _⟩ => show c.val * 1 + 0 - 0 = c.val; omega
      | ⟨1, _⟩ => show k.val * 1 + n.val - 589823 = k.val + n.val - (589824 - 1); omega
    · intro a
      match a with
      | ⟨0, _⟩ => exact ⟨Nat.zero_le _, by show c.val * 1 + 0 - 0 < 21; omega⟩
      | ⟨1, _⟩ =>
        exact ⟨by show 589823 ≤ k.val * 1 + n.val; omega,
          by show k.val * 1 + n.val - 589823 < 589824; have := n.isLt; have := k.isLt; omega⟩
  · rw [if_neg hn, dif_neg]
    intro h
    have h1 : 589823 ≤ k.val * 1 + n.val := (h 1).1
    omega

end Cert.Proof.LossRef
-- ==== Proof.RefLoss.lean ====
/-
  The reference of the whole kernel, from the sort on: its Jaccard indices and their differences are those of the counts, so
  that its result is the loss of the histogram.
-/
module

public import proofs.«01_k».proof.Proof.RefSort
public import proofs.«01_k».proof.Proof.Gen.LossReferenceIdeal.Run
public import Idealize.ShloMosaic.Lib.ValueIdxRank1

@[expose] public section

noncomputable section

namespace Cert.Proof.LossRef

open Cert.LossReferenceIdeal Cert.LossReferenceIdeal.Gen
open Idealize.ShloMosaic Idealize.ShloMosaic.ValueIdx
open Cert.Proof Cert.Proof.Image Cert.Proof.Lovasz

/-! ## The stages -/

def total (h : Arr) : FVec Ideal S21 .f32 := Host.reduceAdd h (constant S_ .f32 0x00000000#32) reducesTo_S21x589824_S21_d1 h_S_
def wide (t : FVec Ideal S21 .f32) : Arr :=
  broadcastInDim S21x589824 ![0, 1] bcast_S21x1_S21x589824_0_1 (broadcastInDim S21x1 ![0] bcast_S21_S21x1_0 t)
def index (h : Arr) : Arr :=
  subf (all 0x3F800000#32) (Host.divf (subf (wide (total h)) (csum h)) (addf (wide (total h)) (csum (subf (all 0x3F800000#32) h))))
def steps (a : Arr) : Arr :=
  Cert.LossReferenceIdeal.Value.fn_main_v45 (extractStridedSlice S21x1 ![0, 0] a slices_S21x589824_S21x1_0_0)
    (subf (extractStridedSlice S21x589823 ![0, 1] a slices_S21x589824_S21x589823_0_1)
      (extractStridedSlice S21x589823 ![0, 0] a slices_S21x589824_S21x589823_0_0))
def dot (e g : Arr) : FVec Ideal S21 .f32 := Host.dotGeneral dot_S21x589824_S21x589824_S21_1_1_n_n_0_0 none e g
def mean (v : FVec Ideal S21 .f32) : FVec Ideal S_ .f32 :=
  Host.divf (Host.reduceAdd v (constant S_ .f32 0x00000000#32) reducesTo_S21_S_d0 h_S_) (constant S_ .f32 0x41A80000#32)
def fromSort (s : Arr × Arr × Arr) : FVec Ideal S_ .f32 := mean (dot s.2.1 (steps (index s.2.2)))
def fromMids (h m : Arr) : FVec Ideal S_ .f32 := fromSort (sort (Host.negf m) m h)
def result (x : FVec Ideal S4x21x384x384 .f32) (y : IVec S4x384x384 32) : FVec Ideal S_ .f32 :=
  fromMids (hots (labels y)) (mids (hots (labels y)) (probs (logits x)))

set_option maxRecDepth 8192 in
theorem res_eq (m : (ℓ : Loc nD τ sig) → Buf (Elt Ideal) ℓ) (c : Dev nD) :
    Cert.LossReferenceIdeal.Value.res_main_v48 m c
      = result (m ((c.tc : Thread nD τ).loc main_arg0)) (m ((c.tc : Thread nD τ).loc main_arg1)) := by
  unfold Cert.LossReferenceIdeal.Value.res_main_v48; rfl

/-! ## Read at a class -/

theorem wide_apply (t : FVec Ideal S21 .f32) (c : Fin 21) (k : Fin 589824) : wide t (ix2 c k) = t (ix1 c) := by
  refine (broadcastInDim_apply _ bcast_S21x1_S21x589824_0_1 _ (ix2 c k) (ix2 c (0 : Fin 1)) (fun a => by
      match a with
      | ⟨0, _⟩ => exact (if_neg (by decide : ¬ (21 : ℕ) = 1)).symm
      | ⟨1, _⟩ => exact (if_pos rfl).symm)).trans ?_
  exact broadcastInDim_apply _ bcast_S21_S21x1_0 _ (ix2 c (0 : Fin 1)) (ix1 c) (fun a => by
      match a with
      | ⟨0, _⟩ => exact (if_neg (by decide : ¬ (21 : ℕ) = 1)).symm)

theorem reduces1 : S21x589824.Reduces [1] S21 := by decide

theorem lift1 (c : Fin 21) (k : Fin 589824) : reduces1.lift (ix1 c) k = ix2 c k := by
  funext a
  match a with
  | ⟨0, _⟩ => rfl
  | ⟨1, _⟩ => rfl

variable {h e : Arr} {c : Fin 21} {l : ℕ → ℕ}

theorem total_apply (hh : ∀ k : Fin 589824, h (ix2 c k) = (((l k.val : ℕ) : ℝ) : EReal)) :
    total h (ix1 c) = (((S l N : ℕ) : ℝ) : EReal) := by
  refine (hostReduceAdd_apply _ _ _ _ _).trans ?_
  rw [Ideal.hostReduceAdd_single _ reduces1]
  show Ideal.ofBits .f32 0x00000000#32 + _ = _
  rw [Ideal.ofBits_zero_f32, zero_add]
  refine ((Finset.sum_congr rfl fun k _ => (congrArg h (lift1 c k)).trans (hh k)).trans
    (Pixel.sum_coe (Finset.univ : Finset (Fin 589824)) (fun k => ((l k.val : ℕ) : ℝ)))).trans ?_
  unfold S
  rw [Nat.cast_sum, Finset.sum_range]

theorem csum_hot (hh : ∀ k : Fin 589824, h (ix2 c k) = (((l k.val : ℕ) : ℝ) : EReal)) (k : Fin 589824) :
    csum h (ix2 c k) = (((S l (k.val + 1) : ℕ) : ℝ) : EReal) := by
  rw [csum_apply h c (fun n => (((l n : ℕ) : ℝ) : EReal)) hh k, Pixel.sum_coe]
  unfold S
  rw [Nat.cast_sum]

theorem csum_cold (hh : ∀ k : Fin 589824, h (ix2 c k) = (((l k.val : ℕ) : ℝ) : EReal)) (k : Fin 589824) :
    csum (subf (all 0x3F800000#32) h) (ix2 c k) = ((((k.val + 1 : ℕ) : ℝ) - (S l (k.val + 1) : ℕ) : ℝ) : EReal) := by
  rw [csum_apply (subf (all 0x3F800000#32) h) c (fun n => ((1 - ((l n : ℕ) : ℝ) : ℝ) : EReal)) (fun k => by
    rw [subf_apply, all_apply, Pixel.fone, hh]
    exact (EReal.coe_sub _ _).symm) k, Pixel.sum_coe]
  unfold S
  rw [Finset.sum_sub_distrib, Nat.cast_sum]
  simp

theorem index_apply (hl : ∀ i, l i ≤ 1) (hh : ∀ k : Fin 589824, h (ix2 c k) = (((l k.val : ℕ) : ℝ) : EReal)) (k : Fin 589824) :
    index h (ix2 c k) = ((J N l (k.val + 1) : ℝ) : EReal) := by
  have hpos : ((S l N : ℕ) : ℝ) + (((k.val + 1 : ℕ) : ℝ) - (S l (k.val + 1) : ℕ)) ≠ 0 := by
    have hle : S l (k.val + 1) ≤ S l N := Finset.sum_le_sum_of_subset (Finset.range_subset_range.mpr k.isLt)
    have h1 : ((S l (k.val + 1) : ℕ) : ℝ) ≤ (S l N : ℕ) := by exact_mod_cast hle
    have h2 : (0 : ℝ) < ((k.val + 1 : ℕ) : ℝ) := by exact_mod_cast Nat.succ_pos _
    exact ne_of_gt (by linarith)
  unfold index
  rw [subf_apply, all_apply, Pixel.fone, hostDivf_apply, subf_apply, addf_apply, wide_apply, total_apply hh, csum_hot hh, csum_cold hh]
  rw [← EReal.coe_sub, ← EReal.coe_add, Pixel.div_coe hpos, ← EReal.coe_sub]
  rw [J_succ hl k.isLt]

theorem steps_apply {a : Arr} {g : ℕ → ℝ} (h0 : g 0 = 0) (ha : ∀ k : Fin 589824, a (ix2 c k) = ((g (k.val + 1) : ℝ) : EReal)) (k : Fin 589824) :
    steps a (ix2 c k) = ((g (k.val + 1) - g k.val : ℝ) : EReal) := by
  unfold steps Cert.LossReferenceIdeal.Value.fn_main_v45
  by_cases hk : k.val = 0
  · refine (concatenate_pair_apply_left (s₁ := S21x1) (s₂ := S21x589823) (t := S21x589824) (1 : Fin 2) _ _ concatenates_S21x1_S21x589823_S21x589824_d1 (ix2 c k) rfl (ix2 c (0 : Fin 1)) (fun b => by
      match b with
      | ⟨0, _⟩ => rfl
      | ⟨1, _⟩ => exact hk.symm)).trans ?_
    refine (extractStridedSlice_apply _ a slices_S21x589824_S21x1_0_0 _ (ix2 c k) (fun b => by
      match b with
      | ⟨0, _⟩ => exact (Nat.zero_add _).symm
      | ⟨1, _⟩ => exact hk)).trans ?_
    rw [ha, hk, h0, sub_zero]
  · have hlt := k.isLt
    refine (concatenate_pair_apply_right (s₁ := S21x1) (s₂ := S21x589823) (t := S21x589824) (1 : Fin 2) _ _ concatenates_S21x1_S21x589823_S21x589824_d1 (ix2 c k) rfl rfl
      (ix2 c (⟨k.val - 1, by omega⟩ : Fin 589823)) (fun b hb => by
        match b with
        | ⟨0, _⟩ => rfl
        | ⟨1, _⟩ => exact absurd rfl hb) (by show k.val - 1 + 1 = k.val; omega)).trans ?_
    rw [subf_apply]
    have e1 : extractStridedSlice S21x589823 ![0, 1] a slices_S21x589824_S21x589823_0_1 (ix2 c (⟨k.val - 1, by omega⟩ : Fin 589823)) = a (ix2 c k) :=
      extractStridedSlice_apply _ a _ _ (ix2 c k) (fun b => by
        match b with
        | ⟨0, _⟩ => exact (Nat.zero_add _).symm
        | ⟨1, _⟩ => show k.val = 1 + (k.val - 1); omega)
    have e2 : extractStridedSlice S21x589823 ![0, 0] a slices_S21x589824_S21x589823_0_0 (ix2 c (⟨k.val - 1, by omega⟩ : Fin 589823))
        = a (ix2 c (⟨k.val - 1, by omega⟩ : Fin 589824)) :=
      extractStridedSlice_apply _ a _ _ (ix2 c (⟨k.val - 1, by omega⟩ : Fin 589824)) (fun b => by
        match b with
        | ⟨0, _⟩ => exact (Nat.zero_add _).symm
        | ⟨1, _⟩ => exact (Nat.zero_add _).symm)
    rw [e1, e2, ha, ha, ← EReal.coe_sub]
    have h3 : k.val - 1 + 1 = k.val := by omega
    show ((g (k.val + 1) - g (k.val - 1 + 1) : ℝ) : EReal) = _
    rw [h3]

theorem dot_apply {a : Arr} {f g : ℕ → ℝ} (hf : ∀ k : Fin 589824, e (ix2 c k) = ((f k.val : ℝ) : EReal))
    (hg : ∀ k : Fin 589824, a (ix2 c k) = ((g k.val : ℝ) : EReal)) :
    dot e a (ix1 c) = ((∑ k ∈ Finset.range N, f k * g k : ℝ) : EReal) := by
  unfold dot Host.dotGeneral
  rw [Ideal.dotGeneral_apply, ← Equiv.sum_comp (contrEquiv1 dot_S21x589824_S21x589824_S21_1_1_n_n_0_0 589824 rfl rfl).symm]
  refine (Finset.sum_congr rfl fun k _ => ?_).trans ((Pixel.sum_coe Finset.univ (fun k : Fin 589824 => f k.val * g k.val)).trans ?_)
  · have hk := contrEquiv1_symm_val dot_S21x589824_S21x589824_S21_1_1_n_n_0_0 589824 rfl rfl k
    have el : dot_S21x589824_S21x589824_S21_1_1_n_n_0_0.lhsIdx (ix1 c) ((contrEquiv1 dot_S21x589824_S21x589824_S21_1_1_n_n_0_0 589824 rfl rfl).symm k) = ix2 c k := by
      funext a; apply Fin.ext
      match a with
      | ⟨0, _⟩ => rfl
      | ⟨1, _⟩ => exact hk
    have er : dot_S21x589824_S21x589824_S21_1_1_n_n_0_0.rhsIdx (ix1 c) ((contrEquiv1 dot_S21x589824_S21x589824_S21_1_1_n_n_0_0 589824 rfl rfl).symm k) = ix2 c k := by
      funext a; apply Fin.ext
      match a with
      | ⟨0, _⟩ => rfl
      | ⟨1, _⟩ => exact hk
    rw [el, er, hf, hg, EReal.coe_mul]
  · rw [Finset.sum_range]

theorem mean_apply {v : FVec Ideal S21 .f32} {g : Fin 21 → ℝ} (hv : ∀ c, v (ix1 c) = ((g c : ℝ) : EReal)) (j : S_.Idx) :
    mean v j = (((∑ c, g c) / 21 : ℝ) : EReal) := by
  have h1 : Host.reduceAdd v (constant S_ .f32 0x00000000#32) reducesTo_S21_S_d0 h_S_ j = ((∑ c, g c : ℝ) : EReal) := by
    refine (hostReduceAdd_apply _ _ _ _ _).trans ?_
    rw [Ideal.hostReduceAdd_total _ (fun b => b.elim0)]
    show Ideal.ofBits .f32 0x00000000#32 + _ = _
    rw [Ideal.ofBits_zero_f32, zero_add, ← Pixel.sum_coe]
    rw [← Equiv.sum_comp (idxEquiv1 (n := 21)).symm]
    exact Finset.sum_congr rfl fun c _ => hv c
  unfold mean
  rw [hostDivf_apply, h1]
  show Ideal.div _ (Ideal.ofBits .f32 0x41A80000#32) = _
  rw [Pixel.f21, Pixel.div_coe (by norm_num)]

/-! ## The counts along the order -/

section Order

variable {s : Fin 589824 → Fin 589824}

/-- A sequence of the pixels, read along an order of them. -/
def along (s : Fin 589824 → Fin 589824) (f : ℕ → ℕ) (k : ℕ) : ℕ := if hk : k < 589824 then f (s ⟨k, hk⟩).val else 0

theorem along_val (f : ℕ → ℕ) (k : Fin 589824) : along s f k.val = f (s k).val := dif_pos k.isLt

theorem sum_along (hs : Function.Bijective s) (f : ℕ → ℕ) (p : (ℕ → ℕ) → ℕ → Prop) [∀ g i, Decidable (p g i)] (g : ℕ → ℕ)
    (hp : ∀ k : Fin 589824, p (along s g) k.val ↔ p g (s k).val) :
    (∑ i ∈ (Finset.range N).filter (p (along s g)), along s f i) = ∑ i ∈ (Finset.range N).filter (p g), f i := by
  rw [Finset.sum_filter, Finset.sum_filter, Finset.sum_range, Finset.sum_range]
  refine (Finset.sum_congr rfl fun k _ => ?_).trans (Equiv.sum_comp (Equiv.ofBijective s hs) (fun k : Fin 589824 => if p g k.val then f k.val else 0))
  rw [along_val]
  simp only [hp]
  rfl

theorem B_along (hs : Function.Bijective s) (b f : ℕ → ℕ) (j : ℕ) : B N (along s b) (along s f) j = B N b f j := by
  unfold B
  exact sum_along hs f (fun g i => g i < j) b (fun k => by rw [along_val])

theorem K_along (hs : Function.Bijective s) (b : ℕ → ℕ) (j : ℕ) : K N (along s b) j = K N b j := by
  unfold K
  rw [Finset.card_eq_sum_ones, Finset.card_eq_sum_ones]
  refine Eq.trans (Finset.sum_congr rfl fun i hi => ?_) (sum_along hs (fun _ => 1) (fun g i => j ≤ g i) b (fun k => by rw [along_val]))
  have := Finset.mem_range.mp (Finset.mem_filter.mp hi).1
  unfold along
  rw [dif_pos this]

end Order

/-! ## The result -/

variable {x : SX.Idx → EReal} (y : SY.Idx → BitVec 32)

/-- A class, its bins `b` and labels `f` read along an order in which the bins do not rise. -/
theorem order_eq {s : Fin 589824 → Fin 589824} (hs : Function.Bijective s) (b f : ℕ → ℕ) (hb : ∀ i, b i < 1024) (hf : ∀ i, f i ≤ 1)
    (hsort : ∀ k k' : Fin 589824, k ≤ k' → b (s k').val ≤ b (s k).val) {m h : Arr} (c : Fin 21)
    (hm : ∀ k : Fin 589824, m (ix2 c k) = ((Pixel.mid (b (s k).val) : ℝ) : EReal))
    (hh : ∀ k : Fin 589824, h (ix2 c k) = (((f (s k).val : ℕ) : ℝ) : EReal)) :
    dot m (steps (index h)) (ix1 c)
      = (((1 / 1024) * (∑ j ∈ Finset.range 1024, (K N b j : ℝ) / max ((K N b j : ℝ) + B N b f j) 1) - 1 / 2 / 1024 : ℝ) : EReal) := by
  have h1 : ∀ i j, i ≤ j → j < N → along s b j ≤ along s b i := fun i j hij hj => by
    have := hsort ⟨i, lt_of_le_of_lt hij hj⟩ ⟨j, hj⟩ hij
    unfold along
    rw [dif_pos hj, dif_pos (lt_of_le_of_lt hij hj)]
    exact this
  have h2 : ∀ i, along s b i < 1024 := fun i => by
    unfold along
    split
    · exact hb _
    · exact Nat.succ_pos _
  have h3 : ∀ i, along s f i ≤ 1 := fun i => by
    unfold along
    split
    · exact hf _
    · exact Nat.zero_le _
  have h0 : J N (along s f) 0 = 0 := by
    unfold J
    rw [Nat.cast_zero, zero_div]
  have hi := index_apply h3 (fun k => (hh k).trans (by rw [along_val]))
  rw [dot_apply (f := fun k => Pixel.mid (along s b k)) (g := fun k => J N (along s f) (k + 1) - J N (along s f) k)
    (fun k => (hm k).trans (by rw [along_val])) (steps_apply h0 hi)]
  unfold Pixel.mid
  have hN : 0 < N := Nat.lt_of_lt_of_le Nat.zero_lt_one (by norm_num)
  rw [loss_eq hN h2 h1]
  refine congrArg (fun r : ℝ => (((1 / 1024) * r - 1 / 2 / 1024 : ℝ) : EReal)) (Finset.sum_congr rfl fun j _ => ?_)
  rw [K_along hs, B_along hs]

theorem class_eq (hx : AllFinite x) (c : Fin 21) {h m : Arr}
    (hh : ∀ k : Fin 589824, h (ix2 c k) = (((hot y c k.val : ℕ) : ℝ) : EReal))
    (hm : ∀ k : Fin 589824, m (ix2 c k) = ((Pixel.mid (bn x y c k.val) : ℝ) : EReal)) :
    dot (sort (Host.negf m) m h).2.1 (steps (index (sort (Host.negf m) m h).2.2)) (ix1 c)
      = (((1 / 1024) * (∑ j ∈ Finset.range 1024, jac x y c j) - 1 / 2 / 1024 : ℝ) : EReal) := by
  have hneg : ∀ k, Host.negf m (ix2 c k) = ((-Pixel.mid (bn x y c k.val) : ℝ) : EReal) := fun k => by
    have : Host.negf m (ix2 c k) = -(m (ix2 c k)) := rfl
    rw [this, hm, EReal.coe_neg]
  unfold jac
  refine order_eq (perm_bijective (Host.negf m) m h c) (bn x y c) (hot y c) (bn_lt x y c) (hot_le y c) (fun k k' hk => ?_) c
    (fun k => (sort_apply1 _ _ _ c k).trans (hm _)) (fun k => (sort_apply2 _ _ _ c k).trans (hh _))
  have h1 := perm_sorted (Host.negf m) m h c k k' hk
  rw [hneg, hneg, EReal.coe_le_coe_iff] at h1
  unfold Pixel.mid at h1
  have h3 : ((bn x y c (perm (Host.negf m) m h c k').val : ℕ) : ℝ) ≤ (bn x y c (perm (Host.negf m) m h c k).val : ℕ) := by linarith
  exact_mod_cast h3

theorem result_eq (hx : AllFinite x) : result x y = fun _ => (loss x y : EReal) := by
  funext j
  unfold result fromMids fromSort
  exact mean_apply (fun c => class_eq y hx c (fun k => by rw [hots_apply, hot_coe]) (fun k => mids_apply y c k hx)) j

end Cert.Proof.LossRef
-- ==== Proof.lean ====
/-
  The proof of `Cert.Claim`. The SparseCore call alone: its run (Proof/Launch.lean) and its reference's value
  (Proof/RefValue.lean), joined. The whole kernel: its run (Proof/WholeLaunch.lean), its value (Proof/WholeLoss.lean) and its
  reference's (Proof/RefLoss.lean), joined.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossReferenceIdeal
public import proofs.«01_k».proof.Proof.Gen.LossReferenceIdeal.Run
public import proofs.«01_k».proof.Proof.Launch
public import proofs.«01_k».proof.Proof.RefValue
public import proofs.«01_k».proof.Proof.WholeLoss
public import proofs.«01_k».proof.Proof.RefLoss

@[expose] public section

noncomputable section

namespace Cert.Proof

open Idealize.ShloMosaic Idealize.SL.Sem

instance pre_facts : Cert.Pre_in_bins.Facts := ⟨by decide⟩

/-- The precondition, read at one word. -/
theorem word_lt {v : BitVec 32} (e : IntOp.andi (IntOp.cmpi .sge v 0#32) (IntOp.cmpi .slt v 43008#32) = 1#1) : v.toNat < 43008 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem lt_of_pre {F : FTy → Type} [FloatOps F] (x : IVec Cert.KernelIdeal.S12386304 32)
    (h : Cert.Pre_in_bins.fn (F := F) x = fun _ => 1#1) (j : Cert.KernelIdeal.S12386304.Idx) : (x j).toNat < 43008 :=
  word_lt (congrFun h j)

/-! ## The frames -/

theorem frame_KernelIdeal : Cert.quiescent_KernelIdeal (hPre_in_bins := pre_facts) := fun m ρ hpre =>
  (θ_run Cert.KernelIdeal.defs _ _).mono (fun _ h => ⟨fun c => (h.1 c).1, h.2⟩)
    (Hist.run_main (F := Ideal) m ρ fun d => lt_of_pre _ (hpre d))

theorem frame_Kernel : Cert.quiescent_Kernel (hPre_in_bins := pre_facts) := fun m ρ hpre =>
  (θ_run Cert.KernelIdeal.defs _ _).mono (fun _ h => ⟨fun c => (h.1 c).1, h.2⟩)
    (Hist.run_main (F := Bits) m ρ fun d => lt_of_pre _ (hpre d))

theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ReferenceIdeal_in_bins : Cert.quiescent_ReferenceIdeal_pre_in_bins (hPre_in_bins := pre_facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_Reference : Cert.quiescent_Reference (hPre_in_bins := pre_facts) := fun m ρ _ =>
  (θ_run Cert.Reference.defs _ _).mono (fun r h => ⟨fun c => (h c).2, sem_eq_zero_of_no_sems (by decide) r.2⟩)
    (Cert.Reference.Value.run (F := Bits) m ρ)

/-! ## The values -/

theorem algebraic : Cert.algebraic_KernelIdeal_ReferenceIdeal (hPre_in_bins := pre_facts) := by
  intro m ρ m' ρ' hpre hagree
  have hlt : ∀ d, ∀ j, (m (Hist.iLoc d) j).toNat < 43008 := fun d => lt_of_pre _ (hpre d)
  refine ⟨fun c => Hist.hist m c,
    (θ_run Cert.KernelIdeal.defs _ _).mono (fun _ h c => ⟨(h.1 c).2, (h.1 c).1⟩) (Hist.run_main (F := Ideal) m ρ hlt),
    (θ_run Cert.ReferenceIdeal.defs _ _).mono (fun _ h c => ⟨(h c).1.trans ?_, (h c).2⟩) (Cert.ReferenceIdeal.Value.run (F := Ideal) m' ρ')⟩
  exact (congrArg Ref.term (hagree c)).trans (Ref.term_eq _ (hlt c))

theorem bitexact : Cert.bitexact_Kernel_Reference (hPre_in_bins := pre_facts) := by
  intro m ρ m' ρ' hpre hagree
  have hlt : ∀ d, ∀ j, (m (Hist.iLoc d) j).toNat < 43008 := fun d => lt_of_pre _ (hpre d)
  refine ⟨fun c => Hist.hist (F := Bits) m c,
    (θ_run Cert.KernelIdeal.defs _ _).mono (fun _ h c => ⟨(h.1 c).2, (h.1 c).1⟩) (Hist.run_main (F := Bits) m ρ hlt),
    (θ_run Cert.Reference.defs _ _).mono (fun _ h c => ⟨(h c).1.trans ?_, (h c).2⟩) (Cert.Reference.Value.run (F := Bits) m' ρ')⟩
  exact (congrArg Ref.term (hagree c)).trans (Ref.term_eq _ (hlt c))

/-! ## The whole kernel -/

instance finite_facts : Cert.Pre_finite.Facts := ⟨by decide⟩

theorem real_of_lt {r : EReal} (h : Ideal.cmp .olt (max r (-r)) (Ideal.ofBits .f32 0x7F800000#32) = 1#1) : r = (r.toReal : EReal) := by
  have ht : Ideal.ofBits .f32 0x7F800000#32 = ⊤ := by simp [Ideal.ofBits, Ideal.ieee]
  rw [ht] at h
  have hlt : max r (-r) < ⊤ := by
    by_contra hn
    have h0 : Ideal.cmp .olt (max r (-r)) ⊤ = BitVec.ofBool (decide (max r (-r) < ⊤)) := rfl
    rw [h0, decide_eq_false hn] at h
    exact absurd h (by decide)
  refine (EReal.coe_toReal ?_ ?_).symm
  · rintro rfl
    exact absurd (lt_of_le_of_lt (le_max_left _ _) hlt) (lt_irrefl _)
  · rintro rfl
    exact absurd (lt_of_le_of_lt (le_max_right _ _) hlt) (lt_irrefl _)

theorem allFinite_of_pre (x : FVec Ideal Cert.LossIdeal.S4x21x384x384 .f32) (y : IVec Cert.LossIdeal.S4x384x384 32)
    (h : Cert.Pre_finite.fn (F := Ideal) x y = fun _ => 1#1) : Image.AllFinite x := fun j => real_of_lt (congrFun h j)

theorem frame_LossIdeal : Cert.quiescent_LossIdeal := fun m ρ hpre =>
  (θ_run Cert.LossIdeal.defs _ _).mono (fun _ h => ⟨fun c =>
      ⟨(h.1 c Cert.LossIdeal.main_arg0 rfl).trans Whole.kept_logits, (h.1 c Cert.LossIdeal.main_arg1 rfl).trans Whole.kept_labels⟩, h.2⟩)
    (Whole.run_main (F := Ideal) m ρ (Whole.pre_ok m fun d => allFinite_of_pre _ _ (hpre d)))

theorem frame_LossReferenceIdeal : Cert.quiescent_LossReferenceIdeal := fun m ρ _ =>
  (θ_run Cert.LossReferenceIdeal.defs _ _).mono (fun r h => ⟨fun c => (h c).2, sem_eq_zero_of_no_sems (by decide) r.2⟩)
    (Cert.LossReferenceIdeal.Value.run (F := Ideal) m ρ)

theorem frame_LossReferenceIdeal_finite : Cert.quiescent_LossReferenceIdeal_pre_finite := fun m ρ _ =>
  (θ_run Cert.LossReferenceIdeal.defs _ _).mono (fun r h => ⟨fun c => (h c).2, sem_eq_zero_of_no_sems (by decide) r.2⟩)
    (Cert.LossReferenceIdeal.Value.run (F := Ideal) m ρ)

theorem algebraic_loss : Cert.algebraic_LossIdeal_LossReferenceIdeal := by
  intro m ρ m' ρ' hpre hagree
  have hx : ∀ d, Image.AllFinite (Whole.argX m d) := fun d => allFinite_of_pre _ _ (hpre d)
  refine ⟨fun c _ => (Image.loss (Whole.argX m c) (Whole.argY m c) : EReal),
    (θ_run Cert.LossIdeal.defs _ _).mono (fun _ h c => ⟨(h.1 c Cert.LossIdeal.main_v7 rfl).trans (Whole.result_value (hx c)),
      (h.1 c Cert.LossIdeal.main_arg0 rfl).trans Whole.kept_logits, (h.1 c Cert.LossIdeal.main_arg1 rfl).trans Whole.kept_labels⟩)
      (Whole.run_main (F := Ideal) m ρ (Whole.pre_ok m hx)),
    (θ_run Cert.LossReferenceIdeal.defs _ _).mono (fun _ h c => ⟨(h c).1.trans ?_, (h c).2⟩)
      (Cert.LossReferenceIdeal.Value.run (F := Ideal) m' ρ')⟩
  refine (LossRef.res_eq m' c).trans ((congrArg₂ LossRef.result (hagree c).1 (hagree c).2).trans ?_)
  exact LossRef.result_eq _ (hx c)

theorem claim : Cert.Claim :=
  ⟨Cert.Kernel.Gen.facts, Cert.KernelIdeal.Gen.facts, Cert.ReferenceIdeal.Gen.facts, Cert.Reference.Gen.facts,
    Cert.LossIdeal.Gen.facts, Cert.LossReferenceIdeal.Gen.facts, pre_facts, finite_facts,
    frame_Kernel, frame_KernelIdeal, frame_ReferenceIdeal, frame_ReferenceIdeal_in_bins, frame_Reference,
    frame_LossIdeal, frame_LossReferenceIdeal, frame_LossReferenceIdeal_finite,
    trivial, algebraic, bitexact, algebraic_loss⟩

end Cert.Proof

end
